-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_KvPrompt (m : (ℓ : Loc Cert.KvPrompt.nD Cert.KvPrompt.τ Cert.KvPrompt.sig) → Buf (Elt Bits) ℓ) : Prop :=
  True

def Pre_KvPromptIdeal (m : (ℓ : Loc Cert.KvPromptIdeal.nD Cert.KvPromptIdeal.τ Cert.KvPromptIdeal.sig) → Buf (Elt Ideal) ℓ) : Prop :=
  True

def Pre_KvPromptRefIdeal (m : (ℓ : Loc Cert.KvPromptRefIdeal.nD Cert.KvPromptRefIdeal.τ Cert.KvPromptRefIdeal.sig) → Buf (Elt Ideal) ℓ) : Prop :=
  True

def Pre_KvSample (m : (ℓ : Loc Cert.KvSample.nD Cert.KvSample.τ Cert.KvSample.sig) → Buf (Elt Bits) ℓ) : Prop :=
  True

def Pre_KvSampleIdeal (m : (ℓ : Loc Cert.KvSampleIdeal.nD Cert.KvSampleIdeal.τ Cert.KvSampleIdeal.sig) → Buf (Elt Ideal) ℓ) : Prop :=
  True

def Pre_KvSampleRefIdeal (m : (ℓ : Loc Cert.KvSampleRefIdeal.nD Cert.KvSampleRefIdeal.τ Cert.KvSampleRefIdeal.sig) → Buf (Elt Ideal) ℓ) : Prop :=
  True

def Pre_ProjLn (m : (ℓ : Loc Cert.ProjLn.nD Cert.ProjLn.τ Cert.ProjLn.sig) → Buf (Elt Bits) ℓ) : Prop :=
  True

def Pre_ProjLnIdeal (m : (ℓ : Loc Cert.ProjLnIdeal.nD Cert.ProjLnIdeal.τ Cert.ProjLnIdeal.sig) → Buf (Elt Ideal) ℓ) : Prop :=
  True

def Pre_ProjLnRefIdeal (m : (ℓ : Loc Cert.ProjLnRefIdeal.nD Cert.ProjLnRefIdeal.τ Cert.ProjLnRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_KvPrompt [hKvPrompt : Cert.KvPrompt.Facts] : Prop :=
  ∀ (m : (ℓ : Loc Cert.KvPrompt.nD Cert.KvPrompt.τ Cert.KvPrompt.sig) → Buf (Elt Bits) ℓ) (g : Dev Cert.KvPrompt.nD → PrngReg), Pre_KvPrompt m →
    θ_run (Cert.KvPrompt.defs (F := Bits)) (onTc (τ := Cert.KvPrompt.τ) (Cert.KvPrompt.main (F := Bits))) ⟨m, fun _ => 0, g⟩ (fun r => (∀ c : Dev Cert.KvPrompt.nD,
      r.2.mem ((c.tc : Thread Cert.KvPrompt.nD Cert.KvPrompt.τ).loc Cert.KvPrompt.main_arg0) = m ((c.tc : Thread Cert.KvPrompt.nD Cert.KvPrompt.τ).loc Cert.KvPrompt.main_arg0)
      ∧ r.2.mem ((c.tc : Thread Cert.KvPrompt.nD Cert.KvPrompt.τ).loc Cert.KvPrompt.main_arg1) = m ((c.tc : Thread Cert.KvPrompt.nD Cert.KvPrompt.τ).loc Cert.KvPrompt.main_arg1))
      ∧ r.2.sem = fun _ => 0)

def quiescent_KvPromptIdeal [hKvPromptIdeal : Cert.KvPromptIdeal.Facts] : Prop :=
  ∀ (m : (ℓ : Loc Cert.KvPromptIdeal.nD Cert.KvPromptIdeal.τ Cert.KvPromptIdeal.sig) → Buf (Elt Ideal) ℓ) (g : Dev Cert.KvPromptIdeal.nD → PrngReg), Pre_KvPromptIdeal m →
    θ_run (Cert.KvPromptIdeal.defs (F := Ideal)) (onTc (τ := Cert.KvPromptIdeal.τ) (Cert.KvPromptIdeal.main (F := Ideal))) ⟨m, fun _ => 0, g⟩ (fun r => (∀ c : Dev Cert.KvPromptIdeal.nD,
      r.2.mem ((c.tc : Thread Cert.KvPromptIdeal.nD Cert.KvPromptIdeal.τ).loc Cert.KvPromptIdeal.main_arg0) = m ((c.tc : Thread Cert.KvPromptIdeal.nD Cert.KvPromptIdeal.τ).loc Cert.KvPromptIdeal.main_arg0)
      ∧ r.2.mem ((c.tc : Thread Cert.KvPromptIdeal.nD Cert.KvPromptIdeal.τ).loc Cert.KvPromptIdeal.main_arg1) = m ((c.tc : Thread Cert.KvPromptIdeal.nD Cert.KvPromptIdeal.τ).loc Cert.KvPromptIdeal.main_arg1))
      ∧ r.2.sem = fun _ => 0)

def quiescent_KvPromptRefIdeal [hKvPromptRefIdeal : Cert.KvPromptRefIdeal.Facts] : Prop :=
  ∀ (m : (ℓ : Loc Cert.KvPromptRefIdeal.nD Cert.KvPromptRefIdeal.τ Cert.KvPromptRefIdeal.sig) → Buf (Elt Ideal) ℓ) (g : Dev Cert.KvPromptRefIdeal.nD → PrngReg), Pre_KvPromptRefIdeal m →
    θ_run (Cert.KvPromptRefIdeal.defs (F := Ideal)) (onTc (τ := Cert.KvPromptRefIdeal.τ) (Cert.KvPromptRefIdeal.main (F := Ideal))) ⟨m, fun _ => 0, g⟩ (fun r => (∀ c : Dev Cert.KvPromptRefIdeal.nD,
      r.2.mem ((c.tc : Thread Cert.KvPromptRefIdeal.nD Cert.KvPromptRefIdeal.τ).loc Cert.KvPromptRefIdeal.main_arg0) = m ((c.tc : Thread Cert.KvPromptRefIdeal.nD Cert.KvPromptRefIdeal.τ).loc Cert.KvPromptRefIdeal.main_arg0)
      ∧ r.2.mem ((c.tc : Thread Cert.KvPromptRefIdeal.nD Cert.KvPromptRefIdeal.τ).loc Cert.KvPromptRefIdeal.main_arg1) = m ((c.tc : Thread Cert.KvPromptRefIdeal.nD Cert.KvPromptRefIdeal.τ).loc Cert.KvPromptRefIdeal.main_arg1))
      ∧ r.2.sem = fun _ => 0)

def quiescent_KvSample [hKvSample : Cert.KvSample.Facts] : Prop :=
  ∀ (m : (ℓ : Loc Cert.KvSample.nD Cert.KvSample.τ Cert.KvSample.sig) → Buf (Elt Bits) ℓ) (g : Dev Cert.KvSample.nD → PrngReg), Pre_KvSample m →
    θ_run (Cert.KvSample.defs (F := Bits)) (onTc (τ := Cert.KvSample.τ) (Cert.KvSample.main (F := Bits))) ⟨m, fun _ => 0, g⟩ (fun r => (∀ c : Dev Cert.KvSample.nD,
      r.2.mem ((c.tc : Thread Cert.KvSample.nD Cert.KvSample.τ).loc Cert.KvSample.main_arg0) = m ((c.tc : Thread Cert.KvSample.nD Cert.KvSample.τ).loc Cert.KvSample.main_arg0)
      ∧ r.2.mem ((c.tc : Thread Cert.KvSample.nD Cert.KvSample.τ).loc Cert.KvSample.main_arg1) = m ((c.tc : Thread Cert.KvSample.nD Cert.KvSample.τ).loc Cert.KvSample.main_arg1))
      ∧ r.2.sem = fun _ => 0)

def quiescent_KvSampleIdeal [hKvSampleIdeal : Cert.KvSampleIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg), Pre_KvSampleIdeal m →
    θ_run (Cert.KvSampleIdeal.defs (F := Ideal)) (onTc (τ := Cert.KvSampleIdeal.τ) (Cert.KvSampleIdeal.main (F := Ideal))) ⟨m, fun _ => 0, g⟩ (fun r => (∀ c : Dev Cert.KvSampleIdeal.nD,
      r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
      ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1))
      ∧ r.2.sem = fun _ => 0)

def quiescent_KvSampleRefIdeal [hKvSampleRefIdeal : Cert.KvSampleRefIdeal.Facts] : Prop :=
  ∀ (m : (ℓ : Loc Cert.KvSampleRefIdeal.nD Cert.KvSampleRefIdeal.τ Cert.KvSampleRefIdeal.sig) → Buf (Elt Ideal) ℓ) (g : Dev Cert.KvSampleRefIdeal.nD → PrngReg), Pre_KvSampleRefIdeal m →
    θ_run (Cert.KvSampleRefIdeal.defs (F := Ideal)) (onTc (τ := Cert.KvSampleRefIdeal.τ) (Cert.KvSampleRefIdeal.main (F := Ideal))) ⟨m, fun _ => 0, g⟩ (fun r => (∀ c : Dev Cert.KvSampleRefIdeal.nD,
      r.2.mem ((c.tc : Thread Cert.KvSampleRefIdeal.nD Cert.KvSampleRefIdeal.τ).loc Cert.KvSampleRefIdeal.main_arg0) = m ((c.tc : Thread Cert.KvSampleRefIdeal.nD Cert.KvSampleRefIdeal.τ).loc Cert.KvSampleRefIdeal.main_arg0)
      ∧ r.2.mem ((c.tc : Thread Cert.KvSampleRefIdeal.nD Cert.KvSampleRefIdeal.τ).loc Cert.KvSampleRefIdeal.main_arg1) = m ((c.tc : Thread Cert.KvSampleRefIdeal.nD Cert.KvSampleRefIdeal.τ).loc Cert.KvSampleRefIdeal.main_arg1))
      ∧ r.2.sem = fun _ => 0)

def quiescent_ProjLn [hProjLn : Cert.ProjLn.Facts] : Prop :=
  ∀ (m : (ℓ : Loc Cert.ProjLn.nD Cert.ProjLn.τ Cert.ProjLn.sig) → Buf (Elt Bits) ℓ) (g : Dev Cert.ProjLn.nD → PrngReg), Pre_ProjLn m →
    θ_run (Cert.ProjLn.defs (F := Bits)) (onTc (τ := Cert.ProjLn.τ) (Cert.ProjLn.main (F := Bits))) ⟨m, fun _ => 0, g⟩ (fun r => (∀ c : Dev Cert.ProjLn.nD,
      r.2.mem ((c.tc : Thread Cert.ProjLn.nD Cert.ProjLn.τ).loc Cert.ProjLn.main_arg0) = m ((c.tc : Thread Cert.ProjLn.nD Cert.ProjLn.τ).loc Cert.ProjLn.main_arg0)
      ∧ r.2.mem ((c.tc : Thread Cert.ProjLn.nD Cert.ProjLn.τ).loc Cert.ProjLn.main_arg1) = m ((c.tc : Thread Cert.ProjLn.nD Cert.ProjLn.τ).loc Cert.ProjLn.main_arg1)
      ∧ r.2.mem ((c.tc : Thread Cert.ProjLn.nD Cert.ProjLn.τ).loc Cert.ProjLn.main_arg2) = m ((c.tc : Thread Cert.ProjLn.nD Cert.ProjLn.τ).loc Cert.ProjLn.main_arg2)
      ∧ r.2.mem ((c.tc : Thread Cert.ProjLn.nD Cert.ProjLn.τ).loc Cert.ProjLn.main_arg3) = m ((c.tc : Thread Cert.ProjLn.nD Cert.ProjLn.τ).loc Cert.ProjLn.main_arg3)
      ∧ r.2.mem ((c.tc : Thread Cert.ProjLn.nD Cert.ProjLn.τ).loc Cert.ProjLn.main_arg4) = m ((c.tc : Thread Cert.ProjLn.nD Cert.ProjLn.τ).loc Cert.ProjLn.main_arg4))
      ∧ r.2.sem = fun _ => 0)

def quiescent_ProjLnIdeal [hProjLnIdeal : Cert.ProjLnIdeal.Facts] : Prop :=
  ∀ (m : (ℓ : Loc Cert.ProjLnIdeal.nD Cert.ProjLnIdeal.τ Cert.ProjLnIdeal.sig) → Buf (Elt Ideal) ℓ) (g : Dev Cert.ProjLnIdeal.nD → PrngReg), Pre_ProjLnIdeal m →
    θ_run (Cert.ProjLnIdeal.defs (F := Ideal)) (onTc (τ := Cert.ProjLnIdeal.τ) (Cert.ProjLnIdeal.main (F := Ideal))) ⟨m, fun _ => 0, g⟩ (fun r => (∀ c : Dev Cert.ProjLnIdeal.nD,
      r.2.mem ((c.tc : Thread Cert.ProjLnIdeal.nD Cert.ProjLnIdeal.τ).loc Cert.ProjLnIdeal.main_arg0) = m ((c.tc : Thread Cert.ProjLnIdeal.nD Cert.ProjLnIdeal.τ).loc Cert.ProjLnIdeal.main_arg0)
      ∧ r.2.mem ((c.tc : Thread Cert.ProjLnIdeal.nD Cert.ProjLnIdeal.τ).loc Cert.ProjLnIdeal.main_arg1) = m ((c.tc : Thread Cert.ProjLnIdeal.nD Cert.ProjLnIdeal.τ).loc Cert.ProjLnIdeal.main_arg1)
      ∧ r.2.mem ((c.tc : Thread Cert.ProjLnIdeal.nD Cert.ProjLnIdeal.τ).loc Cert.ProjLnIdeal.main_arg2) = m ((c.tc : Thread Cert.ProjLnIdeal.nD Cert.ProjLnIdeal.τ).loc Cert.ProjLnIdeal.main_arg2)
      ∧ r.2.mem ((c.tc : Thread Cert.ProjLnIdeal.nD Cert.ProjLnIdeal.τ).loc Cert.ProjLnIdeal.main_arg3) = m ((c.tc : Thread Cert.ProjLnIdeal.nD Cert.ProjLnIdeal.τ).loc Cert.ProjLnIdeal.main_arg3)
      ∧ r.2.mem ((c.tc : Thread Cert.ProjLnIdeal.nD Cert.ProjLnIdeal.τ).loc Cert.ProjLnIdeal.main_arg4) = m ((c.tc : Thread Cert.ProjLnIdeal.nD Cert.ProjLnIdeal.τ).loc Cert.ProjLnIdeal.main_arg4))
      ∧ r.2.sem = fun _ => 0)

def quiescent_ProjLnRefIdeal [hProjLnRefIdeal : Cert.ProjLnRefIdeal.Facts] : Prop :=
  ∀ (m : (ℓ : Loc Cert.ProjLnRefIdeal.nD Cert.ProjLnRefIdeal.τ Cert.ProjLnRefIdeal.sig) → Buf (Elt Ideal) ℓ) (g : Dev Cert.ProjLnRefIdeal.nD → PrngReg), Pre_ProjLnRefIdeal m →
    θ_run (Cert.ProjLnRefIdeal.defs (F := Ideal)) (onTc (τ := Cert.ProjLnRefIdeal.τ) (Cert.ProjLnRefIdeal.main (F := Ideal))) ⟨m, fun _ => 0, g⟩ (fun r => (∀ c : Dev Cert.ProjLnRefIdeal.nD,
      r.2.mem ((c.tc : Thread Cert.ProjLnRefIdeal.nD Cert.ProjLnRefIdeal.τ).loc Cert.ProjLnRefIdeal.main_arg0) = m ((c.tc : Thread Cert.ProjLnRefIdeal.nD Cert.ProjLnRefIdeal.τ).loc Cert.ProjLnRefIdeal.main_arg0)
      ∧ r.2.mem ((c.tc : Thread Cert.ProjLnRefIdeal.nD Cert.ProjLnRefIdeal.τ).loc Cert.ProjLnRefIdeal.main_arg1) = m ((c.tc : Thread Cert.ProjLnRefIdeal.nD Cert.ProjLnRefIdeal.τ).loc Cert.ProjLnRefIdeal.main_arg1)
      ∧ r.2.mem ((c.tc : Thread Cert.ProjLnRefIdeal.nD Cert.ProjLnRefIdeal.τ).loc Cert.ProjLnRefIdeal.main_arg2) = m ((c.tc : Thread Cert.ProjLnRefIdeal.nD Cert.ProjLnRefIdeal.τ).loc Cert.ProjLnRefIdeal.main_arg2)
      ∧ r.2.mem ((c.tc : Thread Cert.ProjLnRefIdeal.nD Cert.ProjLnRefIdeal.τ).loc Cert.ProjLnRefIdeal.main_arg3) = m ((c.tc : Thread Cert.ProjLnRefIdeal.nD Cert.ProjLnRefIdeal.τ).loc Cert.ProjLnRefIdeal.main_arg3)
      ∧ r.2.mem ((c.tc : Thread Cert.ProjLnRefIdeal.nD Cert.ProjLnRefIdeal.τ).loc Cert.ProjLnRefIdeal.main_arg4) = m ((c.tc : Thread Cert.ProjLnRefIdeal.nD Cert.ProjLnRefIdeal.τ).loc Cert.ProjLnRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5))
      ∧ r.2.sem = fun _ => 0)

def preserves_Kernel_KernelIdeal : Prop :=
  IdealRules.named_const.Statement Cert.KernelIdeal.κ "s" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_KvPrompt_KvPromptIdeal : Prop :=
  True

def algebraic_KvPromptIdeal_KvPromptRefIdeal [hKvPromptIdeal : Cert.KvPromptIdeal.Facts] [hKvPromptRefIdeal : Cert.KvPromptRefIdeal.Facts] : Prop :=
  ∀ (m : (ℓ : Loc Cert.KvPromptIdeal.nD Cert.KvPromptIdeal.τ Cert.KvPromptIdeal.sig) → Buf (Elt Ideal) ℓ) (g : Dev Cert.KvPromptIdeal.nD → PrngReg)
    (m' : (ℓ : Loc Cert.KvPromptRefIdeal.nD Cert.KvPromptRefIdeal.τ Cert.KvPromptRefIdeal.sig) → Buf (Elt Ideal) ℓ) (g' : Dev Cert.KvPromptRefIdeal.nD → PrngReg), Pre_KvPromptIdeal m →
    (∀ c : Dev Cert.KvPromptIdeal.nD,
      m' ((c.tc : Thread Cert.KvPromptRefIdeal.nD Cert.KvPromptRefIdeal.τ).loc Cert.KvPromptRefIdeal.main_arg0) = m ((c.tc : Thread Cert.KvPromptIdeal.nD Cert.KvPromptIdeal.τ).loc Cert.KvPromptIdeal.main_arg0)
      ∧ m' ((c.tc : Thread Cert.KvPromptRefIdeal.nD Cert.KvPromptRefIdeal.τ).loc Cert.KvPromptRefIdeal.main_arg1) = m ((c.tc : Thread Cert.KvPromptIdeal.nD Cert.KvPromptIdeal.τ).loc Cert.KvPromptIdeal.main_arg1)) →
    ∃ (v0 : (c : Dev Cert.KvPromptIdeal.nD) → Buf (Elt Ideal) ((c.tc : Thread Cert.KvPromptIdeal.nD Cert.KvPromptIdeal.τ).loc Cert.KvPromptIdeal.main_v5)),
      θ_run (Cert.KvPromptIdeal.defs (F := Ideal)) (onTc (τ := Cert.KvPromptIdeal.τ) (Cert.KvPromptIdeal.main (F := Ideal))) ⟨m, fun _ => 0, g⟩ (fun r => ∀ c : Dev Cert.KvPromptIdeal.nD,
          r.2.mem ((c.tc : Thread Cert.KvPromptIdeal.nD Cert.KvPromptIdeal.τ).loc Cert.KvPromptIdeal.main_v5) = v0 c
          ∧ r.2.mem ((c.tc : Thread Cert.KvPromptIdeal.nD Cert.KvPromptIdeal.τ).loc Cert.KvPromptIdeal.main_arg0) = m ((c.tc : Thread Cert.KvPromptIdeal.nD Cert.KvPromptIdeal.τ).loc Cert.KvPromptIdeal.main_arg0)
          ∧ r.2.mem ((c.tc : Thread Cert.KvPromptIdeal.nD Cert.KvPromptIdeal.τ).loc Cert.KvPromptIdeal.main_arg1) = m ((c.tc : Thread Cert.KvPromptIdeal.nD Cert.KvPromptIdeal.τ).loc Cert.KvPromptIdeal.main_arg1))
      ∧ θ_run (Cert.KvPromptRefIdeal.defs (F := Ideal)) (onTc (τ := Cert.KvPromptRefIdeal.τ) (Cert.KvPromptRefIdeal.main (F := Ideal))) ⟨m', fun _ => 0, g'⟩ (fun r => ∀ c : Dev Cert.KvPromptRefIdeal.nD,
          r.2.mem ((c.tc : Thread Cert.KvPromptRefIdeal.nD Cert.KvPromptRefIdeal.τ).loc Cert.KvPromptRefIdeal.main_v10) = v0 c
          ∧ r.2.mem ((c.tc : Thread Cert.KvPromptRefIdeal.nD Cert.KvPromptRefIdeal.τ).loc Cert.KvPromptRefIdeal.main_arg0) = m' ((c.tc : Thread Cert.KvPromptRefIdeal.nD Cert.KvPromptRefIdeal.τ).loc Cert.KvPromptRefIdeal.main_arg0)
          ∧ r.2.mem ((c.tc : Thread Cert.KvPromptRefIdeal.nD Cert.KvPromptRefIdeal.τ).loc Cert.KvPromptRefIdeal.main_arg1) = m' ((c.tc : Thread Cert.KvPromptRefIdeal.nD Cert.KvPromptRefIdeal.τ).loc Cert.KvPromptRefIdeal.main_arg1))

def preserves_KvSample_KvSampleIdeal : Prop :=
  True

def algebraic_KvSampleIdeal_KvSampleRefIdeal [hKvSampleIdeal : Cert.KvSampleIdeal.Facts] [hKvSampleRefIdeal : Cert.KvSampleRefIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg)
    (m' : (ℓ : Loc Cert.KvSampleRefIdeal.nD Cert.KvSampleRefIdeal.τ Cert.KvSampleRefIdeal.sig) → Buf (Elt Ideal) ℓ) (g' : Dev Cert.KvSampleRefIdeal.nD → PrngReg), Pre_KvSampleIdeal m →
    (∀ c : Dev Cert.KvSampleIdeal.nD,
      m' ((c.tc : Thread Cert.KvSampleRefIdeal.nD Cert.KvSampleRefIdeal.τ).loc Cert.KvSampleRefIdeal.main_arg0) = m ((c.tc : Thread Cert.KvSampleIdeal.nD Cert.KvSampleIdeal.τ).loc Cert.KvSampleIdeal.main_arg0)
      ∧ m' ((c.tc : Thread Cert.KvSampleRefIdeal.nD Cert.KvSampleRefIdeal.τ).loc Cert.KvSampleRefIdeal.main_arg1) = m ((c.tc : Thread Cert.KvSampleIdeal.nD Cert.KvSampleIdeal.τ).loc Cert.KvSampleIdeal.main_arg1)) →
    ∃ (v0 : (c : Dev Cert.KvSampleIdeal.nD) → Buf (Elt Ideal) ((c.tc : Thread Cert.KvSampleIdeal.nD Cert.KvSampleIdeal.τ).loc Cert.KvSampleIdeal.main_v4)),
      θ_run (Cert.KvSampleIdeal.defs (F := Ideal)) (onTc (τ := Cert.KvSampleIdeal.τ) (Cert.KvSampleIdeal.main (F := Ideal))) ⟨m, fun _ => 0, g⟩ (fun r => ∀ c : Dev Cert.KvSampleIdeal.nD,
          r.2.mem ((c.tc : Thread Cert.KvSampleIdeal.nD Cert.KvSampleIdeal.τ).loc Cert.KvSampleIdeal.main_v4) = v0 c
          ∧ r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
          ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1))
      ∧ θ_run (Cert.KvSampleRefIdeal.defs (F := Ideal)) (onTc (τ := Cert.KvSampleRefIdeal.τ) (Cert.KvSampleRefIdeal.main (F := Ideal))) ⟨m', fun _ => 0, g'⟩ (fun r => ∀ c : Dev Cert.KvSampleRefIdeal.nD,
          r.2.mem ((c.tc : Thread Cert.KvSampleRefIdeal.nD Cert.KvSampleRefIdeal.τ).loc Cert.KvSampleRefIdeal.main_v10) = v0 c
          ∧ r.2.mem ((c.tc : Thread Cert.KvSampleRefIdeal.nD Cert.KvSampleRefIdeal.τ).loc Cert.KvSampleRefIdeal.main_arg0) = m' ((c.tc : Thread Cert.KvSampleRefIdeal.nD Cert.KvSampleRefIdeal.τ).loc Cert.KvSampleRefIdeal.main_arg0)
          ∧ r.2.mem ((c.tc : Thread Cert.KvSampleRefIdeal.nD Cert.KvSampleRefIdeal.τ).loc Cert.KvSampleRefIdeal.main_arg1) = m' ((c.tc : Thread Cert.KvSampleRefIdeal.nD Cert.KvSampleRefIdeal.τ).loc Cert.KvSampleRefIdeal.main_arg1))

def preserves_ProjLn_ProjLnIdeal : Prop :=
  True

def algebraic_ProjLnIdeal_ProjLnRefIdeal [hProjLnIdeal : Cert.ProjLnIdeal.Facts] [hProjLnRefIdeal : Cert.ProjLnRefIdeal.Facts] : Prop :=
  ∀ (m : (ℓ : Loc Cert.ProjLnIdeal.nD Cert.ProjLnIdeal.τ Cert.ProjLnIdeal.sig) → Buf (Elt Ideal) ℓ) (g : Dev Cert.ProjLnIdeal.nD → PrngReg)
    (m' : (ℓ : Loc Cert.ProjLnRefIdeal.nD Cert.ProjLnRefIdeal.τ Cert.ProjLnRefIdeal.sig) → Buf (Elt Ideal) ℓ) (g' : Dev Cert.ProjLnRefIdeal.nD → PrngReg), Pre_ProjLnIdeal m →
    (∀ c : Dev Cert.ProjLnIdeal.nD,
      m' ((c.tc : Thread Cert.ProjLnRefIdeal.nD Cert.ProjLnRefIdeal.τ).loc Cert.ProjLnRefIdeal.main_arg0) = m ((c.tc : Thread Cert.ProjLnIdeal.nD Cert.ProjLnIdeal.τ).loc Cert.ProjLnIdeal.main_arg0)
      ∧ m' ((c.tc : Thread Cert.ProjLnRefIdeal.nD Cert.ProjLnRefIdeal.τ).loc Cert.ProjLnRefIdeal.main_arg1) = m ((c.tc : Thread Cert.ProjLnIdeal.nD Cert.ProjLnIdeal.τ).loc Cert.ProjLnIdeal.main_arg1)
      ∧ m' ((c.tc : Thread Cert.ProjLnRefIdeal.nD Cert.ProjLnRefIdeal.τ).loc Cert.ProjLnRefIdeal.main_arg2) = m ((c.tc : Thread Cert.ProjLnIdeal.nD Cert.ProjLnIdeal.τ).loc Cert.ProjLnIdeal.main_arg2)
      ∧ m' ((c.tc : Thread Cert.ProjLnRefIdeal.nD Cert.ProjLnRefIdeal.τ).loc Cert.ProjLnRefIdeal.main_arg3) = m ((c.tc : Thread Cert.ProjLnIdeal.nD Cert.ProjLnIdeal.τ).loc Cert.ProjLnIdeal.main_arg3)
      ∧ m' ((c.tc : Thread Cert.ProjLnRefIdeal.nD Cert.ProjLnRefIdeal.τ).loc Cert.ProjLnRefIdeal.main_arg4) = m ((c.tc : Thread Cert.ProjLnIdeal.nD Cert.ProjLnIdeal.τ).loc Cert.ProjLnIdeal.main_arg4)) →
    ∃ (v0 : (c : Dev Cert.ProjLnIdeal.nD) → Buf (Elt Ideal) ((c.tc : Thread Cert.ProjLnIdeal.nD Cert.ProjLnIdeal.τ).loc Cert.ProjLnIdeal.main_v5_0)) (v1 : (c : Dev Cert.ProjLnIdeal.nD) → Buf (Elt Ideal) ((c.tc : Thread Cert.ProjLnIdeal.nD Cert.ProjLnIdeal.τ).loc Cert.ProjLnIdeal.main_v5_1)),
      θ_run (Cert.ProjLnIdeal.defs (F := Ideal)) (onTc (τ := Cert.ProjLnIdeal.τ) (Cert.ProjLnIdeal.main (F := Ideal))) ⟨m, fun _ => 0, g⟩ (fun r => ∀ c : Dev Cert.ProjLnIdeal.nD,
          r.2.mem ((c.tc : Thread Cert.ProjLnIdeal.nD Cert.ProjLnIdeal.τ).loc Cert.ProjLnIdeal.main_v5_0) = v0 c
          ∧ r.2.mem ((c.tc : Thread Cert.ProjLnIdeal.nD Cert.ProjLnIdeal.τ).loc Cert.ProjLnIdeal.main_v5_1) = v1 c
          ∧ r.2.mem ((c.tc : Thread Cert.ProjLnIdeal.nD Cert.ProjLnIdeal.τ).loc Cert.ProjLnIdeal.main_arg0) = m ((c.tc : Thread Cert.ProjLnIdeal.nD Cert.ProjLnIdeal.τ).loc Cert.ProjLnIdeal.main_arg0)
          ∧ r.2.mem ((c.tc : Thread Cert.ProjLnIdeal.nD Cert.ProjLnIdeal.τ).loc Cert.ProjLnIdeal.main_arg1) = m ((c.tc : Thread Cert.ProjLnIdeal.nD Cert.ProjLnIdeal.τ).loc Cert.ProjLnIdeal.main_arg1)
          ∧ r.2.mem ((c.tc : Thread Cert.ProjLnIdeal.nD Cert.ProjLnIdeal.τ).loc Cert.ProjLnIdeal.main_arg2) = m ((c.tc : Thread Cert.ProjLnIdeal.nD Cert.ProjLnIdeal.τ).loc Cert.ProjLnIdeal.main_arg2)
          ∧ r.2.mem ((c.tc : Thread Cert.ProjLnIdeal.nD Cert.ProjLnIdeal.τ).loc Cert.ProjLnIdeal.main_arg3) = m ((c.tc : Thread Cert.ProjLnIdeal.nD Cert.ProjLnIdeal.τ).loc Cert.ProjLnIdeal.main_arg3)
          ∧ r.2.mem ((c.tc : Thread Cert.ProjLnIdeal.nD Cert.ProjLnIdeal.τ).loc Cert.ProjLnIdeal.main_arg4) = m ((c.tc : Thread Cert.ProjLnIdeal.nD Cert.ProjLnIdeal.τ).loc Cert.ProjLnIdeal.main_arg4))
      ∧ θ_run (Cert.ProjLnRefIdeal.defs (F := Ideal)) (onTc (τ := Cert.ProjLnRefIdeal.τ) (Cert.ProjLnRefIdeal.main (F := Ideal))) ⟨m', fun _ => 0, g'⟩ (fun r => ∀ c : Dev Cert.ProjLnRefIdeal.nD,
          r.2.mem ((c.tc : Thread Cert.ProjLnRefIdeal.nD Cert.ProjLnRefIdeal.τ).loc Cert.ProjLnRefIdeal.main_v29) = v0 c
          ∧ r.2.mem ((c.tc : Thread Cert.ProjLnRefIdeal.nD Cert.ProjLnRefIdeal.τ).loc Cert.ProjLnRefIdeal.main_v30) = v1 c
          ∧ r.2.mem ((c.tc : Thread Cert.ProjLnRefIdeal.nD Cert.ProjLnRefIdeal.τ).loc Cert.ProjLnRefIdeal.main_arg0) = m' ((c.tc : Thread Cert.ProjLnRefIdeal.nD Cert.ProjLnRefIdeal.τ).loc Cert.ProjLnRefIdeal.main_arg0)
          ∧ r.2.mem ((c.tc : Thread Cert.ProjLnRefIdeal.nD Cert.ProjLnRefIdeal.τ).loc Cert.ProjLnRefIdeal.main_arg1) = m' ((c.tc : Thread Cert.ProjLnRefIdeal.nD Cert.ProjLnRefIdeal.τ).loc Cert.ProjLnRefIdeal.main_arg1)
          ∧ r.2.mem ((c.tc : Thread Cert.ProjLnRefIdeal.nD Cert.ProjLnRefIdeal.τ).loc Cert.ProjLnRefIdeal.main_arg2) = m' ((c.tc : Thread Cert.ProjLnRefIdeal.nD Cert.ProjLnRefIdeal.τ).loc Cert.ProjLnRefIdeal.main_arg2)
          ∧ r.2.mem ((c.tc : Thread Cert.ProjLnRefIdeal.nD Cert.ProjLnRefIdeal.τ).loc Cert.ProjLnRefIdeal.main_arg3) = m' ((c.tc : Thread Cert.ProjLnRefIdeal.nD Cert.ProjLnRefIdeal.τ).loc Cert.ProjLnRefIdeal.main_arg3)
          ∧ r.2.mem ((c.tc : Thread Cert.ProjLnRefIdeal.nD Cert.ProjLnRefIdeal.τ).loc Cert.ProjLnRefIdeal.main_arg4) = m' ((c.tc : Thread Cert.ProjLnRefIdeal.nD Cert.ProjLnRefIdeal.τ).loc Cert.ProjLnRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)) →
    ∃ (v0 : (c : Dev Cert.PleIdeal.nD) → Buf (Elt Ideal) ((c.tc : Thread Cert.PleIdeal.nD Cert.PleIdeal.τ).loc Cert.PleIdeal.main_v4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v10) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)) →
    ∃ (v0 : (c : Dev Cert.PoolIdeal.nD) → Buf (Elt Ideal) ((c.tc : Thread Cert.PoolIdeal.nD Cert.PoolIdeal.τ).loc Cert.PoolIdeal.main_v6_0)) (v1 : (c : Dev Cert.PoolIdeal.nD) → Buf (Elt Ideal) ((c.tc : Thread Cert.PoolIdeal.nD Cert.PoolIdeal.τ).loc Cert.PoolIdeal.main_v6_1)) (v2 : (c : Dev Cert.PoolIdeal.nD) → Buf (Elt Ideal) ((c.tc : Thread Cert.PoolIdeal.nD Cert.PoolIdeal.τ).loc Cert.PoolIdeal.main_v6_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v6_0) = v0 c
          ∧ r.2.mem ((c.tc : Thread Cert.PoolIdeal.nD Cert.PoolIdeal.τ).loc Cert.PoolIdeal.main_v6_1) = v1 c
          ∧ r.2.mem ((c.tc : Thread Cert.PoolIdeal.nD Cert.PoolIdeal.τ).loc Cert.PoolIdeal.main_v6_2) = v2 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v153) = v0 c
          ∧ r.2.mem ((c.tc : Thread Cert.PoolRefIdeal.nD Cert.PoolRefIdeal.τ).loc Cert.PoolRefIdeal.main_v154) = v1 c
          ∧ r.2.mem ((c.tc : Thread Cert.PoolRefIdeal.nD Cert.PoolRefIdeal.τ).loc Cert.PoolRefIdeal.main_v155) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hKvPrompt : Cert.KvPrompt.Facts) (hKvPromptIdeal : Cert.KvPromptIdeal.Facts) (hKvPromptRefIdeal : Cert.KvPromptRefIdeal.Facts) (hKvSample : Cert.KvSample.Facts) (hKvSampleIdeal : Cert.KvSampleIdeal.Facts) (hKvSampleRefIdeal : Cert.KvSampleRefIdeal.Facts) (hProjLn : Cert.ProjLn.Facts) (hProjLnIdeal : Cert.ProjLnIdeal.Facts) (hProjLnRefIdeal : Cert.ProjLnRefIdeal.Facts) (hPle : Cert.Ple.Facts) (hPleIdeal : Cert.PleIdeal.Facts) (hPleRefIdeal : Cert.PleRefIdeal.Facts) (hPool : Cert.Pool.Facts) (hPoolIdeal : Cert.PoolIdeal.Facts) (hPoolRefIdeal : Cert.PoolRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Proj (hProj := hProj)
    ∧ quiescent_ProjIdeal (hProjIdeal := hProjIdeal)
    ∧ quiescent_ProjRefIdeal (hProjRefIdeal := hProjRefIdeal)
    ∧ quiescent_KvPrompt (hKvPrompt := hKvPrompt)
    ∧ quiescent_KvPromptIdeal (hKvPromptIdeal := hKvPromptIdeal)
    ∧ quiescent_KvPromptRefIdeal (hKvPromptRefIdeal := hKvPromptRefIdeal)
    ∧ quiescent_KvSample (hKvSample := hKvSample)
    ∧ quiescent_KvSampleIdeal (hKvSampleIdeal := hKvSampleIdeal)
    ∧ quiescent_KvSampleRefIdeal (hKvSampleRefIdeal := hKvSampleRefIdeal)
    ∧ quiescent_ProjLn (hProjLn := hProjLn)
    ∧ quiescent_ProjLnIdeal (hProjLnIdeal := hProjLnIdeal)
    ∧ quiescent_ProjLnRefIdeal (hProjLnRefIdeal := hProjLnRefIdeal)
    ∧ quiescent_Ple (hPle := hPle)
    ∧ quiescent_PleIdeal (hPleIdeal := hPleIdeal)
    ∧ quiescent_PleRefIdeal (hPleRefIdeal := hPleRefIdeal)
    ∧ quiescent_Pool (hPool := hPool)
    ∧ quiescent_PoolIdeal (hPoolIdeal := hPoolIdeal)
    ∧ quiescent_PoolRefIdeal (hPoolRefIdeal := hPoolRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Proj_ProjIdeal
    ∧ algebraic_ProjIdeal_ProjRefIdeal (hProjIdeal := hProjIdeal) (hProjRefIdeal := hProjRefIdeal)
    ∧ preserves_KvPrompt_KvPromptIdeal
    ∧ algebraic_KvPromptIdeal_KvPromptRefIdeal (hKvPromptIdeal := hKvPromptIdeal) (hKvPromptRefIdeal := hKvPromptRefIdeal)
    ∧ preserves_KvSample_KvSampleIdeal
    ∧ algebraic_KvSampleIdeal_KvSampleRefIdeal (hKvSampleIdeal := hKvSampleIdeal) (hKvSampleRefIdeal := hKvSampleRefIdeal)
    ∧ preserves_ProjLn_ProjLnIdeal
    ∧ algebraic_ProjLnIdeal_ProjLnRefIdeal (hProjLnIdeal := hProjLnIdeal) (hProjLnRefIdeal := hProjLnRefIdeal)
    ∧ preserves_Ple_PleIdeal
    ∧ algebraic_PleIdeal_PleRefIdeal (hPleIdeal := hPleIdeal) (hPleRefIdeal := hPleRefIdeal)
    ∧ preserves_Pool_PoolIdeal
    ∧ algebraic_PoolIdeal_PoolRefIdeal (hPoolIdeal := hPoolIdeal) (hPoolRefIdeal := hPoolRefIdeal)
-- ==== Pre_finite.lean ====
abbrev S4x8192x6144 : Shape := ⟨3, ![4, 8192, 6144]⟩
abbrev S16x320 : Shape := ⟨2, ![16, 320]⟩
abbrev S_ : Shape := ⟨0, ![]⟩

class Facts : Prop where
  bitsLt_bf16_f32 : FTy.bits .bf16 < FTy.bits .f32
  bcast_S_S4x8192x6144 : S_.BroadcastsInDim S4x8192x6144 (![] : Fin 0 → Fin S4x8192x6144.rank)
  reducesTo_S4x8192x6144_S_d0_1_2 : S4x8192x6144.ReducesTo [0, 1, 2] S_
  h_S_ : 0 < S_.numel
  bcast_S_S16x320 : S_.BroadcastsInDim S16x320 (![] : Fin 0 → Fin S16x320.rank)
  reducesTo_S16x320_S_d0_1 : S16x320.ReducesTo [0, 1] S_

variable [Facts]

def fn {F : FTy → Type} [FloatOps F] (main_arg0 : FVec F S4x8192x6144 .bf16) (main_arg1 : FVec F S16x320 .f32) : IVec S_ 1 :=
  let main_v0 : FVec F S4x8192x6144 .f32 := (extf .f32 · bitsLt_bf16_f32) main_arg0
  let main_v1 : FVec F S4x8192x6144 .f32 := Host.absf main_v0
  let main_cst : FVec F S_ .f32 := constant S_ .f32 0x7F800000#32
  let main_v2 : FVec F S4x8192x6144 .f32 := broadcastInDim S4x8192x6144 ![] bcast_S_S4x8192x6144 main_cst
  let main_v3 : IVec S4x8192x6144 1 := cmpf .olt main_v1 main_v2
  let main_c : IVec S_ 1 := constantI S_ 1 1#1
  let main_v4 : IVec S_ 1 := (fun x v => Host.reduce IntOp.andi x v reducesTo_S4x8192x6144_S_d0_1_2 h_S_) main_v3 main_c
  let main_v5 : FVec F S16x320 .f32 := Host.absf main_arg1
  let main_cst_0 : FVec F S_ .f32 := constant S_ .f32 0x7F800000#32
  let main_v6 : FVec F S16x320 .f32 := broadcastInDim S16x320 ![] bcast_S_S16x320 main_cst_0
  let main_v7 : IVec S16x320 1 := cmpf .olt main_v5 main_v6
  let main_c_1 : IVec S_ 1 := constantI S_ 1 1#1
  let main_v8 : IVec S_ 1 := (fun x v => Host.reduce IntOp.andi x v reducesTo_S16x320_S_d0_1 h_S_) main_v7 main_c_1
  let main_v9 : IVec S_ 1 := andi main_v4 main_v8
  main_v9
-- ==== Kernel.lean ====
abbrev S4x8192x6144 : Shape := ⟨3, ![4, 8192, 6144]⟩
abbrev S16x320 : Shape := ⟨2, ![16, 320]⟩
abbrev S64x576 : Shape := ⟨2, ![64, 576]⟩
abbrev S_ : Shape := ⟨0, ![]⟩
abbrev S64x576x1 : Shape := ⟨3, ![64, 576, 1]⟩
abbrev S16x64x576 : Shape := ⟨3, ![16, 64, 576]⟩
abbrev S16x64x0 : Shape := ⟨3, ![16, 64, 0]⟩
abbrev S16x64x64 : Shape := ⟨3, ![16, 64, 64]⟩
abbrev S16x64x640 : Shape := ⟨3, ![16, 64, 640]⟩
abbrev S16x128x640 : Shape := ⟨3, ![16, 128, 640]⟩
abbrev S4x8192x2048 : Shape := ⟨3, ![4, 8192, 2048]⟩
abbrev S1x512x2048 : Shape := ⟨3, ![1, 512, 2048]⟩
abbrev S1024x2048 : Shape := ⟨2, ![1024, 2048]⟩
abbrev S512x2048 : Shape := ⟨2, ![512, 2048]⟩
abbrev S128x640 : Shape := ⟨2, ![128, 640]⟩
abbrev S1x128x128 : Shape := ⟨3, ![1, 128, 128]⟩
abbrev S128x128 : Shape := ⟨2, ![128, 128]⟩
abbrev S640x128 : Shape := ⟨2, ![640, 128]⟩
abbrev S1x128x640 : Shape := ⟨3, ![1, 128, 640]⟩
abbrev S128 : Shape := ⟨1, ![128]⟩
abbrev S128x1 : Shape := ⟨2, ![128, 1]⟩

abbrev nBuf : Space → Nat
  | .hbm => 22
  | .vmem => 15
  | .smem => 0
  | _ => 0

abbrev bufTy : (tb : Table) → Fin (tcTables nBuf tb) → BufTy
  | .hbm, ⟨0, _⟩ => ⟨S4x8192x6144, .bf16⟩
  | .hbm, ⟨1, _⟩ => ⟨S16x320, .f32⟩
  | .hbm, ⟨2, _⟩ => ⟨S64x576, .i32⟩
  | .hbm, ⟨3, _⟩ => ⟨S64x576, .i1⟩
  | .hbm, ⟨4, _⟩ => ⟨S_, .i32⟩
  | .hbm, ⟨5, _⟩ => ⟨S64x576, .i32⟩
  | .hbm, ⟨6, _⟩ => ⟨S64x576, .i32⟩
  | .hbm, ⟨7, _⟩ => ⟨S64x576, .i32⟩
  | .hbm, ⟨8, _⟩ => ⟨S64x576x1, .i32⟩
  | .hbm, ⟨9, _⟩ => ⟨S16x64x576, .f32⟩
  | .hbm, ⟨10, _⟩ => ⟨S_, .f32⟩
  | .hbm, ⟨11, _⟩ => ⟨S16x64x0, .f32⟩
  | .hbm, ⟨12, _⟩ => ⟨S_, .f32⟩
  | .hbm, ⟨13, _⟩ => ⟨S16x64x64, .f32⟩
  | .hbm, ⟨14, _⟩ => ⟨S16x64x640, .f32⟩
  | .hbm, ⟨15, _⟩ => ⟨S_, .f32⟩
  | .hbm, ⟨16, _⟩ => ⟨S16x64x64, .f32⟩
  | .hbm, ⟨17, _⟩ => ⟨S_, .f32⟩
  | .hbm, ⟨18, _⟩ => ⟨S16x64x0, .f32⟩
  | .hbm, ⟨19, _⟩ => ⟨S16x64x640, .f32⟩
  | .hbm, ⟨20, _⟩ => ⟨S16x128x640, .f32⟩
  | .hbm, ⟨21, _⟩ => ⟨S4x8192x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x512x2048, .bf16⟩
  | .local _ .vmem, ⟨10, _⟩ => ⟨S16x128x640, .f32⟩
  | .local _ .vmem, ⟨11, _⟩ => ⟨S1x512x2048, .bf16⟩
  | .local _ .vmem, ⟨12, _⟩ => ⟨S1x512x2048, .bf16⟩
  | .local _ .vmem, ⟨13, _⟩ => ⟨S1024x2048, .bf16⟩
  | .local _ .vmem, ⟨14, _⟩ => ⟨S1024x2048, .bf16⟩
  | _, _ => ⟨S4x8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c4_i32 : BitVec 32 := 4#32
  let v21 : BitVec 32 := Scalar.addi c0_i32 c4_i32
  let c1_i32 : BitVec 32 := 1#32
  ⟨c0_i32, v21, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  v22
def k0_off1 (k0_t1 : Fin k0_t1_loop.trips) : Fin 3 → Nat :=
  let c0_20 : Index := 0#32
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v34 : Index := Scalar.indexCast v23
  let c0_21 : Index := 0#32
  ![0, v34.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v37 : Index := Scalar.indexCast v23
  let c0_22 : Index := 0#32
  ![v37.toNat, 0]
def k0_off3 (k0_t1 : Fin k0_t1_loop.trips) : Fin 3 → Nat :=
  let c0_34 : Index := 0#32
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v65 : Index := Scalar.indexCast v23
  let c128 : Index := 128#32
  ![0, v65.toNat, 128]
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v68 : Index := Scalar.indexCast v23
  let c128_35 : Index := 128#32
  ![v68.toNat, 128]
def k0_off5 (k0_t1 : Fin k0_t1_loop.trips) : Fin 3 → Nat :=
  let c0_47 : Index := 0#32
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v96 : Index := Scalar.indexCast v23
  let c256 : Index := 256#32
  ![0, v96.toNat, 256]
def k0_off6 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v99 : Index := Scalar.indexCast v23
  let c256_48 : Index := 256#32
  ![v99.toNat, 256]
def k0_off7 (k0_t1 : Fin k0_t1_loop.trips) : Fin 3 → Nat :=
  let c0_60 : Index := 0#32
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v127 : Index := Scalar.indexCast v23
  let c384 : Index := 384#32
  ![0, v127.toNat, 384]
def k0_off8 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v130 : Index := Scalar.indexCast v23
  let c384_61 : Index := 384#32
  ![v130.toNat, 384]
def k0_off9 (k0_t1 : Fin k0_t1_loop.trips) : Fin 3 → Nat :=
  let c0_73 : Index := 0#32
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v158 : Index := Scalar.indexCast v23
  let c512_74 : Index := 512#32
  ![0, v158.toNat, 512]
def k0_off10 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v161 : Index := Scalar.indexCast v23
  let c512_75 : Index := 512#32
  ![v161.toNat, 512]
def k0_off11 (k0_t1 : Fin k0_t1_loop.trips) : Fin 3 → Nat :=
  let c0_87 : Index := 0#32
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v189 : Index := Scalar.indexCast v23
  let c640 : Index := 640#32
  ![0, v189.toNat, 640]
def k0_off12 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v192 : Index := Scalar.indexCast v23
  let c640_88 : Index := 640#32
  ![v192.toNat, 640]
def k0_off13 (k0_t1 : Fin k0_t1_loop.trips) : Fin 3 → Nat :=
  let c0_100 : Index := 0#32
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v220 : Index := Scalar.indexCast v23
  let c768 : Index := 768#32
  ![0, v220.toNat, 768]
def k0_off14 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v223 : Index := Scalar.indexCast v23
  let c768_101 : Index := 768#32
  ![v223.toNat, 768]
def k0_off15 (k0_t1 : Fin k0_t1_loop.trips) : Fin 3 → Nat :=
  let c0_113 : Index := 0#32
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v251 : Index := Scalar.indexCast v23
  let c896 : Index := 896#32
  ![0, v251.toNat, 896]
def k0_off16 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v254 : Index := Scalar.indexCast v23
  let c896_114 : Index := 896#32
  ![v254.toNat, 896]
def k0_off17 (k0_t1 : Fin k0_t1_loop.trips) : Fin 3 → Nat :=
  let c0_126 : Index := 0#32
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v282 : Index := Scalar.indexCast v23
  let c1024 : Index := 1024#32
  ![0, v282.toNat, 1024]
def k0_off18 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v285 : Index := Scalar.indexCast v23
  let c1024_127 : Index := 1024#32
  ![v285.toNat, 1024]
def k0_off19 (k0_t1 : Fin k0_t1_loop.trips) : Fin 3 → Nat :=
  let c0_139 : Index := 0#32
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v313 : Index := Scalar.indexCast v23
  let c1152 : Index := 1152#32
  ![0, v313.toNat, 1152]
def k0_off20 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v316 : Index := Scalar.indexCast v23
  let c1152_140 : Index := 1152#32
  ![v316.toNat, 1152]
def k0_off21 (k0_t1 : Fin k0_t1_loop.trips) : Fin 3 → Nat :=
  let c0_152 : Index := 0#32
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v344 : Index := Scalar.indexCast v23
  let c1280 : Index := 1280#32
  ![0, v344.toNat, 1280]
def k0_off22 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v347 : Index := Scalar.indexCast v23
  let c1280_153 : Index := 1280#32
  ![v347.toNat, 1280]
def k0_off23 (k0_t1 : Fin k0_t1_loop.trips) : Fin 3 → Nat :=
  let c0_165 : Index := 0#32
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v375 : Index := Scalar.indexCast v23
  let c1408 : Index := 1408#32
  ![0, v375.toNat, 1408]
def k0_off24 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v378 : Index := Scalar.indexCast v23
  let c1408_166 : Index := 1408#32
  ![v378.toNat, 1408]
def k0_off25 (k0_t1 : Fin k0_t1_loop.trips) : Fin 3 → Nat :=
  let c0_178 : Index := 0#32
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v406 : Index := Scalar.indexCast v23
  let c1536 : Index := 1536#32
  ![0, v406.toNat, 1536]
def k0_off26 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v409 : Index := Scalar.indexCast v23
  let c1536_179 : Index := 1536#32
  ![v409.toNat, 1536]
def k0_off27 (k0_t1 : Fin k0_t1_loop.trips) : Fin 3 → Nat :=
  let c0_191 : Index := 0#32
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v437 : Index := Scalar.indexCast v23
  let c1664 : Index := 1664#32
  ![0, v437.toNat, 1664]
def k0_off28 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v440 : Index := Scalar.indexCast v23
  let c1664_192 : Index := 1664#32
  ![v440.toNat, 1664]
def k0_off29 (k0_t1 : Fin k0_t1_loop.trips) : Fin 3 → Nat :=
  let c0_204 : Index := 0#32
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v468 : Index := Scalar.indexCast v23
  let c1792 : Index := 1792#32
  ![0, v468.toNat, 1792]
def k0_off30 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v471 : Index := Scalar.indexCast v23
  let c1792_205 : Index := 1792#32
  ![v471.toNat, 1792]
def k0_off31 (k0_t1 : Fin k0_t1_loop.trips) : Fin 3 → Nat :=
  let c0_217 : Index := 0#32
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v499 : Index := Scalar.indexCast v23
  let c1920 : Index := 1920#32
  ![0, v499.toNat, 1920]
def k0_off32 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v22 : BitVec 32 := Scalar.muli arg11 c128_i32
  let v23 : BitVec 32 := v22
  let v502 : Index := Scalar.indexCast v23
  let c1920_218 : Index := 1920#32
  ![v502.toNat, 1920]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, v1.toNat, c1_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let c0_i32_0 : BitVec 32 := 0#32
  ![arg0.toNat, v1.toNat, c2_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x128x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | "s" => some (((Real.sqrt 128)⁻¹ : ℝ) : EReal)
  | _ => none
-- ==== ReferenceIdeal.lean ====
abbrev S4x8192x6144 : Shape := ⟨3, ![4, 8192, 6144]⟩
abbrev S16x320 : Shape := ⟨2, ![16, 320]⟩
abbrev S4x8192x3x16x128 : Shape := ⟨5, ![4, 8192, 3, 16, 128]⟩
abbrev S4x8192x1x16x128 : Shape := ⟨5, ![4, 8192, 1, 16, 128]⟩
abbrev S4x8192x16x128 : Shape := ⟨4, ![4, 8192, 16, 128]⟩
abbrev S_ : Shape := ⟨0, ![]⟩
abbrev S4x8704x16x128 : Shape := ⟨4, ![4, 8704, 16, 128]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S128 : Shape := ⟨1, ![128]⟩
abbrev S128x1 : Shape := ⟨2, ![128, 1]⟩
abbrev S128x576 : Shape := ⟨2, ![128, 576]⟩
abbrev S4x128x64x16x128 : Shape := ⟨5, ![4, 128, 64, 16, 128]⟩
abbrev S128x576x1 : Shape := ⟨3, ![128, 576, 1]⟩
abbrev S4x128x576x16x128 : Shape := ⟨5, ![4, 128, 576, 16, 128]⟩
abbrev S4x128x16x64x576 : Shape := ⟨5, ![4, 128, 16, 64, 576]⟩
abbrev S1x1x16x64x576 : Shape := ⟨5, ![1, 1, 16, 64, 576]⟩
abbrev S1x128x1x1x576 : Shape := ⟨5, ![1, 128, 1, 1, 576]⟩
abbrev S4x128x16x64 : Shape := ⟨4, ![4, 128, 16, 64]⟩
abbrev S4x128x16x64x1 : Shape := ⟨5, ![4, 128, 16, 64, 1]⟩
abbrev S4x128x16x128x64 : Shape := ⟨5, ![4, 128, 16, 128, 64]⟩
abbrev S4x8192x2048 : Shape := ⟨3, ![4, 8192, 2048]⟩

abbrev nBuf : Space → Nat
  | .hbm => 116
  | .vmem => 0
  | .smem => 0
  | _ => 0

abbrev bufTy : (tb : Table) → Fin (tcTables nBuf tb) → BufTy
  | .hbm, ⟨0, _⟩ => ⟨S4x8192x6144, .bf16⟩
  | .hbm, ⟨1, _⟩ => ⟨S16x320, .f32⟩
  | .hbm, ⟨2, _⟩ => ⟨S4x8192x6144, .f32⟩
  | .hbm, ⟨3, _⟩ => ⟨S4x8192x3x16x128, .f32⟩
  | .hbm, ⟨4, _⟩ => ⟨S4x8192x1x16x128, .f32⟩
  | .hbm, ⟨5, _⟩ => ⟨S4x8192x16x128, .f32⟩
  | .hbm, ⟨6, _⟩ => ⟨S4x8192x1x16x128, .f32⟩
  | .hbm, ⟨7, _⟩ => ⟨S4x8192x16x128, .f32⟩
  | .hbm, ⟨8, _⟩ => ⟨S4x8192x1x16x128, .f32⟩
  | .hbm, ⟨9, _⟩ => ⟨S4x8192x16x128, .f32⟩
  | .hbm, ⟨10, _⟩ => ⟨S_, .i32⟩
  | .hbm, ⟨11, _⟩ => ⟨S_, .f32⟩
  | .hbm, ⟨12, _⟩ => ⟨S4x8704x16x128, .f32⟩
  | .hbm, ⟨13, _⟩ => ⟨S_, .i32⟩
  | .hbm, ⟨14, _⟩ => ⟨S_, .f32⟩
  | .hbm, ⟨15, _⟩ => ⟨S4x8704x16x128, .f32⟩
  | .hbm, ⟨16, _⟩ => ⟨S64, .i32⟩
  | .hbm, ⟨17, _⟩ => ⟨S576, .i32⟩
  | .hbm, ⟨18, _⟩ => ⟨S64x1, .i32⟩
  | .hbm, ⟨19, _⟩ => ⟨S_, .i32⟩
  | .hbm, ⟨20, _⟩ => ⟨S64x1, .i32⟩
  | .hbm, ⟨21, _⟩ => ⟨S64x1, .i32⟩
  | .hbm, ⟨22, _⟩ => ⟨S1x576, .i32⟩
  | .hbm, ⟨23, _⟩ => ⟨S64x576, .i32⟩
  | .hbm, ⟨24, _⟩ => ⟨S64x576, .i32⟩
  | .hbm, ⟨25, _⟩ => ⟨S64x576, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S_, .i32⟩
  | .hbm, ⟨32, _⟩ => ⟨S64x576, .i32⟩
  | .hbm, ⟨33, _⟩ => ⟨S64x576, .i32⟩
  | .hbm, ⟨34, _⟩ => ⟨S_, .i32⟩
  | .hbm, ⟨35, _⟩ => ⟨S64x576, .i32⟩
  | .hbm, ⟨36, _⟩ => ⟨S64x576, .i32⟩
  | .hbm, ⟨37, _⟩ => ⟨S_, .i32⟩
  | .hbm, ⟨38, _⟩ => ⟨S64x576, .i32⟩
  | .hbm, ⟨39, _⟩ => ⟨S64x576, .i1⟩
  | .hbm, ⟨40, _⟩ => ⟨S_, .i32⟩
  | .hbm, ⟨41, _⟩ => ⟨S64x576, .i32⟩
  | .hbm, ⟨42, _⟩ => ⟨S64x576, .i32⟩
  | .hbm, ⟨43, _⟩ => ⟨S64x576, .i32⟩
  | .hbm, ⟨44, _⟩ => ⟨S64x576x1, .i32⟩
  | .hbm, ⟨45, _⟩ => ⟨S16x64x576, .f32⟩
  | .hbm, ⟨46, _⟩ => ⟨S128, .i32⟩
  | .hbm, ⟨47, _⟩ => ⟨S128x1, .i32⟩
  | .hbm, ⟨48, _⟩ => ⟨S_, .i32⟩
  | .hbm, ⟨49, _⟩ => ⟨S128x1, .i32⟩
  | .hbm, ⟨50, _⟩ => ⟨S128x1, .i32⟩
  | .hbm, ⟨51, _⟩ => ⟨S1x576, .i32⟩
  | .hbm, ⟨52, _⟩ => ⟨S128x576, .i32⟩
  | .hbm, ⟨53, _⟩ => ⟨S128x576, .i32⟩
  | .hbm, ⟨54, _⟩ => ⟨S128x576, .i32⟩
  | .hbm, ⟨55, _⟩ => ⟨S4x128x64x16x128, .f32⟩
  | .hbm, ⟨56, _⟩ => ⟨S_, .i32⟩
  | .hbm, ⟨57, _⟩ => ⟨S128x576, .i32⟩
  | .hbm, ⟨58, _⟩ => ⟨S128x576, .i1⟩
  | .hbm, ⟨59, _⟩ => ⟨S_, .i32⟩
  | .hbm, ⟨60, _⟩ => ⟨S128x576, .i32⟩
  | .hbm, ⟨61, _⟩ => ⟨S128x576, .i32⟩
  | .hbm, ⟨62, _⟩ => ⟨S128x576, .i32⟩
  | .hbm, ⟨63, _⟩ => ⟨S128x576x1, .i32⟩
  | .hbm, ⟨64, _⟩ => ⟨S4x128x576x16x128, .f32⟩
  | .hbm, ⟨65, _⟩ => ⟨S_, .i32⟩
  | .hbm, ⟨66, _⟩ => ⟨S128x576, .i32⟩
  | .hbm, ⟨67, _⟩ => ⟨S128x576, .i1⟩
  | .hbm, ⟨68, _⟩ => ⟨S_, .i32⟩
  | .hbm, ⟨69, _⟩ => ⟨S128x576, .i32⟩
  | .hbm, ⟨70, _⟩ => ⟨S128x576, .i32⟩
  | .hbm, ⟨71, _⟩ => ⟨S128x576, .i32⟩
  | .hbm, ⟨72, _⟩ => ⟨S128x576x1, .i32⟩
  | .hbm, ⟨73, _⟩ => ⟨S4x128x576x16x128, .f32⟩
  | .hbm, ⟨74, _⟩ => ⟨S_, .i32⟩
  | .hbm, ⟨75, _⟩ => ⟨S128x576, .i32⟩
  | .hbm, ⟨76, _⟩ => ⟨S128x576, .i32⟩
  | .hbm, ⟨77, _⟩ => ⟨S_, .i32⟩
  | .hbm, ⟨78, _⟩ => ⟨S128x576, .i32⟩
  | .hbm, ⟨79, _⟩ => ⟨S128x576, .i1⟩
  | .hbm, ⟨80, _⟩ => ⟨S_, .i32⟩
  | .hbm, ⟨81, _⟩ => ⟨S128x576, .i32⟩
  | .hbm, ⟨82, _⟩ => ⟨S128x576, .i1⟩
  | .hbm, ⟨83, _⟩ => ⟨S128x576, .i1⟩
  | .hbm, ⟨84, _⟩ => ⟨S4x128x16x64x576, .f32⟩
  | .hbm, ⟨85, _⟩ => ⟨S_, .f32⟩
  | .hbm, ⟨86, _⟩ => ⟨S_, .f32⟩
  | .hbm, ⟨87, _⟩ => ⟨S4x128x16x64x576, .f32⟩
  | .hbm, ⟨88, _⟩ => ⟨S4x128x16x64x576, .f32⟩
  | .hbm, ⟨89, _⟩ => ⟨S1x1x16x64x576, .f32⟩
  | .hbm, ⟨90, _⟩ => ⟨S4x128x16x64x576, .f32⟩
  | .hbm, ⟨91, _⟩ => ⟨S4x128x16x64x576, .f32⟩
  | .hbm, ⟨92, _⟩ => ⟨S1x128x1x1x576, .i1⟩
  | .hbm, ⟨93, _⟩ => ⟨S_, .f32⟩
  | .hbm, ⟨94, _⟩ => ⟨S_, .f32⟩
  | .hbm, ⟨95, _⟩ => ⟨S4x128x16x64x576, .i1⟩
  | .hbm, ⟨96, _⟩ => ⟨S4x128x16x64x576, .f32⟩
  | .hbm, ⟨97, _⟩ => ⟨S4x128x16x64x576, .f32⟩
  | .hbm, ⟨98, _⟩ => ⟨S_, .f32⟩
  | .hbm, ⟨99, _⟩ => ⟨S4x128x16x64, .f32⟩
  | .hbm, ⟨100, _⟩ => ⟨S_, .f32⟩
  | .hbm, ⟨101, _⟩ => ⟨S4x128x16x64, .f32⟩
  | .hbm, ⟨102, _⟩ => ⟨S4x128x16x64, .f32⟩
  | .hbm, ⟨103, _⟩ => ⟨S4x128x16x64x1, .f32⟩
  | .hbm, ⟨104, _⟩ => ⟨S4x128x16x64x576, .f32⟩
  | .hbm, ⟨105, _⟩ => ⟨S4x128x16x64x576, .f32⟩
  | .hbm, ⟨106, _⟩ => ⟨S4x128x16x64x576, .f32⟩
  | .hbm, ⟨107, _⟩ => ⟨S_, .f32⟩
  | .hbm, ⟨108, _⟩ => ⟨S4x128x16x64, .f32⟩
  | .hbm, ⟨109, _⟩ => ⟨S4x128x16x64x1, .f32⟩
  | .hbm, ⟨110, _⟩ => ⟨S4x128x16x64x576, .f32⟩
  | .hbm, ⟨111, _⟩ => ⟨S4x128x16x64x576, .f32⟩
  | .hbm, ⟨112, _⟩ => ⟨S4x128x16x128x64, .f32⟩
  | .hbm, ⟨113, _⟩ => ⟨S4x128x64x16x128, .f32⟩
  | .hbm, ⟨114, _⟩ => ⟨S4x8192x2048, .f32⟩
  | .hbm, ⟨115, _⟩ => ⟨S4x8192x2048, .bf16⟩
  | _, _ => ⟨S4x8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_c_0 : Ref sig .tc := ⟨.hbm, 13, rfl⟩
abbrev main_call1_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_c_3 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_v52 : Ref sig .tc := ⟨.hbm, 75, rfl⟩
abbrev main_v53 : Ref sig .tc := ⟨.hbm, 76, rfl⟩
abbrev main_c_13 : Ref sig .tc := ⟨.hbm, 77, rfl⟩
abbrev main_v54 : Ref sig .tc := ⟨.hbm, 78, rfl⟩
abbrev main_v55 : Ref sig .tc := ⟨.hbm, 79, rfl⟩
abbrev main_c_14 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_15 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v67 : Ref sig .tc := ⟨.hbm, 97, rfl⟩
abbrev main_cst_16 : Ref sig .tc := ⟨.hbm, 98, rfl⟩
abbrev main_v68 : Ref sig .tc := ⟨.hbm, 99, rfl⟩
abbrev main_cst_17 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩

abbrev nD : Nat := 1
abbrev τ : Topo := Topo.v7x

variable {F : FTy → Type} [FloatOps F]
-- ==== Proj.lean ====
abbrev S4x8192x2048 : Shape := ⟨3, ![4, 8192, 2048]⟩
abbrev S1x2048x6144 : Shape := ⟨3, ![1, 2048, 6144]⟩
abbrev S32768x2048 : Shape := ⟨2, ![32768, 2048]⟩
abbrev S2048x6144 : Shape := ⟨2, ![2048, 6144]⟩
abbrev S32768x6144 : Shape := ⟨2, ![32768, 6144]⟩
abbrev S512x2048 : Shape := ⟨2, ![512, 2048]⟩
abbrev S2048x2048 : Shape := ⟨2, ![2048, 2048]⟩

abbrev nBuf : Space → Nat
  | .hbm => 6
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S1x2048x6144, .f32⟩
  | .hbm, ⟨2, _⟩ => ⟨S32768x2048, .f32⟩
  | .hbm, ⟨3, _⟩ => ⟨S2048x6144, .f32⟩
  | .hbm, ⟨4, _⟩ => ⟨S2048x6144, .bf16⟩
  | .hbm, ⟨5, _⟩ => ⟨S32768x6144, .bf16⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S4x8192x2048 : Shape := ⟨3, ![4, 8192, 2048]⟩
abbrev S1x2048x6144 : Shape := ⟨3, ![1, 2048, 6144]⟩
abbrev S2048x6144 : Shape := ⟨2, ![2048, 6144]⟩
abbrev S4x8192x6144 : Shape := ⟨3, ![4, 8192, 6144]⟩
abbrev S32768x6144 : Shape := ⟨2, ![32768, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S1x2048x6144, .f32⟩
  | .hbm, ⟨2, _⟩ => ⟨S2048x6144, .f32⟩
  | .hbm, ⟨3, _⟩ => ⟨S4x8192x6144, .f32⟩
  | .hbm, ⟨4, _⟩ => ⟨S32768x6144, .f32⟩
  | .hbm, ⟨5, _⟩ => ⟨S32768x6144, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvPrompt.lean ====
abbrev S4x8192x2048 : Shape := ⟨3, ![4, 8192, 2048]⟩
abbrev S1x2048x6144 : Shape := ⟨3, ![1, 2048, 6144]⟩
abbrev S2048x6144 : Shape := ⟨2, ![2048, 6144]⟩
abbrev S2048x4096 : Shape := ⟨2, ![2048, 4096]⟩
abbrev S4x512x2048 : Shape := ⟨3, ![4, 512, 2048]⟩
abbrev S2048x2048 : Shape := ⟨2, ![2048, 2048]⟩
abbrev S512x2048 : Shape := ⟨2, ![512, 2048]⟩

abbrev nBuf : Space → Nat
  | .hbm => 8
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S1x2048x6144, .f32⟩
  | .hbm, ⟨2, _⟩ => ⟨S2048x6144, .f32⟩
  | .hbm, ⟨3, _⟩ => ⟨S2048x6144, .bf16⟩
  | .hbm, ⟨4, _⟩ => ⟨S2048x4096, .bf16⟩
  | .hbm, ⟨5, _⟩ => ⟨S4x512x2048, .f32⟩
  | .hbm, ⟨6, _⟩ => ⟨S2048x2048, .f32⟩
  | .hbm, ⟨7, _⟩ => ⟨S2048x4096, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvPromptRefIdeal.lean ====
abbrev S4x8192x2048 : Shape := ⟨3, ![4, 8192, 2048]⟩
abbrev S1x2048x6144 : Shape := ⟨3, ![1, 2048, 6144]⟩
abbrev S2048x6144 : Shape := ⟨2, ![2048, 6144]⟩
abbrev S4x8192x6144 : Shape := ⟨3, ![4, 8192, 6144]⟩
abbrev S4x8192x3x16x128 : Shape := ⟨5, ![4, 8192, 3, 16, 128]⟩
abbrev S4x512x1x16x128 : Shape := ⟨5, ![4, 512, 1, 16, 128]⟩
abbrev S4x512x16x128 : Shape := ⟨4, ![4, 512, 16, 128]⟩
abbrev S4x512x2x16x128 : Shape := ⟨5, ![4, 512, 2, 16, 128]⟩
abbrev S2048x4096 : Shape := ⟨2, ![2048, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S1x2048x6144, .f32⟩
  | .hbm, ⟨2, _⟩ => ⟨S2048x6144, .f32⟩
  | .hbm, ⟨3, _⟩ => ⟨S4x8192x6144, .f32⟩
  | .hbm, ⟨4, _⟩ => ⟨S4x8192x3x16x128, .f32⟩
  | .hbm, ⟨5, _⟩ => ⟨S4x512x1x16x128, .f32⟩
  | .hbm, ⟨6, _⟩ => ⟨S4x512x16x128, .f32⟩
  | .hbm, ⟨7, _⟩ => ⟨S4x512x1x16x128, .f32⟩
  | .hbm, ⟨8, _⟩ => ⟨S4x512x16x128, .f32⟩
  | .hbm, ⟨9, _⟩ => ⟨S4x512x1x16x128, .f32⟩
  | .hbm, ⟨10, _⟩ => ⟨S4x512x1x16x128, .f32⟩
  | .hbm, ⟨11, _⟩ => ⟨S4x512x2x16x128, .f32⟩
  | .hbm, ⟨12, _⟩ => ⟨S2048x4096, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== KvSample.lean ====
abbrev S8x16x2048 : Shape := ⟨3, ![8, 16, 2048]⟩
abbrev S1x2048x6144 : Shape := ⟨3, ![1, 2048, 6144]⟩
abbrev S2048x6144 : Shape := ⟨2, ![2048, 6144]⟩
abbrev S2048x4096 : Shape := ⟨2, ![2048, 4096]⟩
abbrev S128x2048 : Shape := ⟨2, ![128, 2048]⟩
abbrev S128x4096 : Shape := ⟨2, ![128, 4096]⟩
abbrev S2048x2048 : Shape := ⟨2, ![2048, 2048]⟩

abbrev nBuf : Space → Nat
  | .hbm => 7
  | .vmem => 5
  | .smem => 0
  | _ => 0

abbrev bufTy : (tb : Table) → Fin (tcTables nBuf tb) → BufTy
  | .hbm, ⟨0, _⟩ => ⟨S8x16x2048, .f32⟩
  | .hbm, ⟨1, _⟩ => ⟨S1x2048x6144, .f32⟩
  | .hbm, ⟨2, _⟩ => ⟨S2048x6144, .f32⟩
  | .hbm, ⟨3, _⟩ => ⟨S2048x6144, .bf16⟩
  | .hbm, ⟨4, _⟩ => ⟨S2048x4096, .bf16⟩
  | .hbm, ⟨5, _⟩ => ⟨S128x2048, .f32⟩
  | .hbm, ⟨6, _⟩ => ⟨S128x4096, .f32⟩
  | .local _ .vmem, ⟨0, _⟩ => ⟨S128x2048, .f32⟩
  | .local _ .vmem, ⟨1, _⟩ => ⟨S2048x2048, .bf16⟩
  | .local _ .vmem, ⟨2, _⟩ => ⟨S2048x2048, .bf16⟩
  | .local _ .vmem, ⟨3, _⟩ => ⟨S128x2048, .f32⟩
  | .local _ .vmem, ⟨4, _⟩ => ⟨S128x2048, .f32⟩
  | _, _ => ⟨S8x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvSampleRefIdeal.lean ====
abbrev S8x16x2048 : Shape := ⟨3, ![8, 16, 2048]⟩
abbrev S1x2048x6144 : Shape := ⟨3, ![1, 2048, 6144]⟩
abbrev S2048x6144 : Shape := ⟨2, ![2048, 6144]⟩
abbrev S8x16x6144 : Shape := ⟨3, ![8, 16, 6144]⟩
abbrev S8x16x3x16x128 : Shape := ⟨5, ![8, 16, 3, 16, 128]⟩
abbrev S8x16x1x16x128 : Shape := ⟨5, ![8, 16, 1, 16, 128]⟩
abbrev S8x16x16x128 : Shape := ⟨4, ![8, 16, 16, 128]⟩
abbrev S8x16x2x16x128 : Shape := ⟨5, ![8, 16, 2, 16, 128]⟩
abbrev S128x4096 : Shape := ⟨2, ![128, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8x16x2048, .f32⟩
  | .hbm, ⟨1, _⟩ => ⟨S1x2048x6144, .f32⟩
  | .hbm, ⟨2, _⟩ => ⟨S2048x6144, .f32⟩
  | .hbm, ⟨3, _⟩ => ⟨S8x16x6144, .f32⟩
  | .hbm, ⟨4, _⟩ => ⟨S8x16x3x16x128, .f32⟩
  | .hbm, ⟨5, _⟩ => ⟨S8x16x1x16x128, .f32⟩
  | .hbm, ⟨6, _⟩ => ⟨S8x16x16x128, .f32⟩
  | .hbm, ⟨7, _⟩ => ⟨S8x16x1x16x128, .f32⟩
  | .hbm, ⟨8, _⟩ => ⟨S8x16x16x128, .f32⟩
  | .hbm, ⟨9, _⟩ => ⟨S8x16x1x16x128, .f32⟩
  | .hbm, ⟨10, _⟩ => ⟨S8x16x1x16x128, .f32⟩
  | .hbm, ⟨11, _⟩ => ⟨S8x16x2x16x128, .f32⟩
  | .hbm, ⟨12, _⟩ => ⟨S128x4096, .f32⟩
  | _, _ => ⟨S8x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== ProjLn.lean ====
abbrev S4x8192x2048 : Shape := ⟨3, ![4, 8192, 2048]⟩
abbrev S2048x2048 : Shape := ⟨2, ![2048, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S4x8192x2048, .bf16⟩
  | .hbm, ⟨1, _⟩ => ⟨S2048x2048, .f32⟩
  | .hbm, ⟨2, _⟩ => ⟨S4x8192x2048, .f32⟩
  | .hbm, ⟨3, _⟩ => ⟨S2048, .f32⟩
  | .hbm, ⟨4, _⟩ => ⟨S2048, .f32⟩
  | .hbm, ⟨5, _⟩ => ⟨S32768x2048, .bf16⟩
  | .hbm, ⟨6, _⟩ => ⟨S2048x2048, .bf16⟩
  | .hbm, ⟨7, _⟩ => ⟨S32768x2048, .f32⟩
  | .hbm, ⟨8, _⟩ => ⟨S1x2048, .f32⟩
  | .hbm, ⟨9, _⟩ => ⟨S1x2048, .f32⟩
  | .hbm, ⟨10, _⟩ => ⟨S32768x2048, .f32⟩
  | .hbm, ⟨11, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjLnRefIdeal.lean ====
abbrev S4x8192x2048 : Shape := ⟨3, ![4, 8192, 2048]⟩
abbrev S2048x2048 : Shape := ⟨2, ![2048, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S32768x2048 : Shape := ⟨2, ![32768, 2048]⟩

abbrev nBuf : Space → Nat
  | .hbm => 42
  | .vmem => 0
  | .smem => 0
  | _ => 0

abbrev bufTy : (tb : Table) → Fin (tcTables nBuf tb) → BufTy
  | .hbm, ⟨0, _⟩ => ⟨S4x8192x2048, .bf16⟩
  | .hbm, ⟨1, _⟩ => ⟨S2048x2048, .f32⟩
  | .hbm, ⟨2, _⟩ => ⟨S4x8192x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S4x8192x2048, .f32⟩
  | .hbm, ⟨7, _⟩ => ⟨S4x8192x2048, .f32⟩
  | .hbm, ⟨8, _⟩ => ⟨S4x8192x2048, .f32⟩
  | .hbm, ⟨9, _⟩ => ⟨S4x8192x2048, .f32⟩
  | .hbm, ⟨10, _⟩ => ⟨S4x8192x2048, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x2048, .f32⟩
  | .hbm, ⟨18, _⟩ => ⟨S4x8192x2048, .f32⟩
  | .hbm, ⟨19, _⟩ => ⟨S4x8192x2048, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S4x8192x2048, .f32⟩
  | .hbm, ⟨27, _⟩ => ⟨S4x8192x2048, .f32⟩
  | .hbm, ⟨28, _⟩ => ⟨S_, .f32⟩
  | .hbm, ⟨29, _⟩ => ⟨S4x8192x1, .f32⟩
  | .hbm, ⟨30, _⟩ => ⟨S4x8192x1, .f32⟩
  | .hbm, ⟨31, _⟩ => ⟨S4x8192x1, .f32⟩
  | .hbm, ⟨32, _⟩ => ⟨S4x8192x2048, .f32⟩
  | .hbm, ⟨33, _⟩ => ⟨S4x8192x2048, .f32⟩
  | .hbm, ⟨34, _⟩ => ⟨S1x1x2048, .f32⟩
  | .hbm, ⟨35, _⟩ => ⟨S4x8192x2048, .f32⟩
  | .hbm, ⟨36, _⟩ => ⟨S4x8192x2048, .f32⟩
  | .hbm, ⟨37, _⟩ => ⟨S1x1x2048, .f32⟩
  | .hbm, ⟨38, _⟩ => ⟨S4x8192x2048, .f32⟩
  | .hbm, ⟨39, _⟩ => ⟨S4x8192x2048, .f32⟩
  | .hbm, ⟨40, _⟩ => ⟨S32768x2048, .f32⟩
  | .hbm, ⟨41, _⟩ => ⟨S32768x2048, .bf16⟩
  | _, _ => ⟨S4x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Ple.lean ====
abbrev S4x8192x2048 : Shape := ⟨3, ![4, 8192, 2048]⟩
abbrev S4x8192x256 : Shape := ⟨3, ![4, 8192, 256]⟩
abbrev S256x2048 : Shape := ⟨2, ![256, 2048]⟩
abbrev S2048x2048 : Shape := ⟨2, ![2048, 2048]⟩
abbrev S32768x2048 : Shape := ⟨2, ![32768, 2048]⟩
abbrev S32768x256 : Shape := ⟨2, ![32768, 256]⟩
abbrev S512x2048 : Shape := ⟨2, ![512, 2048]⟩
abbrev S512x256 : Shape := ⟨2, ![512, 256]⟩

abbrev nBuf : Space → Nat
  | .hbm => 9
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S4x8192x256, .f32⟩
  | .hbm, ⟨2, _⟩ => ⟨S256x2048, .f32⟩
  | .hbm, ⟨3, _⟩ => ⟨S2048x2048, .f32⟩
  | .hbm, ⟨4, _⟩ => ⟨S32768x2048, .f32⟩
  | .hbm, ⟨5, _⟩ => ⟨S32768x256, .f32⟩
  | .hbm, ⟨6, _⟩ => ⟨S2048x2048, .bf16⟩
  | .hbm, ⟨7, _⟩ => ⟨S256x2048, .bf16⟩
  | .hbm, ⟨8, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S2048x2048, .bf16⟩
  | .local _ .vmem, ⟨5, _⟩ => ⟨S256x2048, .bf16⟩
  | .local _ .vmem, ⟨6, _⟩ => ⟨S512x2048, .f32⟩
  | .local _ .vmem, ⟨7, _⟩ => ⟨S512x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleRefIdeal.lean ====
abbrev S4x8192x2048 : Shape := ⟨3, ![4, 8192, 2048]⟩
abbrev S4x8192x256 : Shape := ⟨3, ![4, 8192, 256]⟩
abbrev S256x2048 : Shape := ⟨2, ![256, 2048]⟩
abbrev S2048x2048 : Shape := ⟨2, ![2048, 2048]⟩
abbrev S_ : Shape := ⟨0, ![]⟩
abbrev S32768x2048 : Shape := ⟨2, ![32768, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x256, .f32⟩
  | .hbm, ⟨2, _⟩ => ⟨S256x2048, .f32⟩
  | .hbm, ⟨3, _⟩ => ⟨S2048x2048, .f32⟩
  | .hbm, ⟨4, _⟩ => ⟨S4x8192x2048, .f32⟩
  | .hbm, ⟨5, _⟩ => ⟨S4x8192x2048, .f32⟩
  | .hbm, ⟨6, _⟩ => ⟨S4x8192x2048, .f32⟩
  | .hbm, ⟨7, _⟩ => ⟨S_, .f32⟩
  | .hbm, ⟨8, _⟩ => ⟨S4x8192x2048, .f32⟩
  | .hbm, ⟨9, _⟩ => ⟨S4x8192x2048, .f32⟩
  | .hbm, ⟨10, _⟩ => ⟨S_, .f32⟩
  | .hbm, ⟨11, _⟩ => ⟨S4x8192x2048, .f32⟩
  | .hbm, ⟨12, _⟩ => ⟨S4x8192x2048, .f32⟩
  | .hbm, ⟨13, _⟩ => ⟨S4x8192x2048, .f32⟩
  | .hbm, ⟨14, _⟩ => ⟨S4x8192x2048, .f32⟩
  | .hbm, ⟨15, _⟩ => ⟨S4x8192x2048, .f32⟩
  | .hbm, ⟨16, _⟩ => ⟨S32768x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Pool.lean ====
abbrev S4x8192x2048 : Shape := ⟨3, ![4, 8192, 2048]⟩
abbrev S2048x2048 : Shape := ⟨2, ![2048, 2048]⟩
abbrev S4x512x512 : Shape := ⟨3, ![4, 512, 512]⟩
abbrev S2048 : Shape := ⟨1, ![2048]⟩
abbrev S_ : Shape := ⟨0, ![]⟩
abbrev S4x16x2048 : Shape := ⟨3, ![4, 16, 2048]⟩
abbrev S1x2048 : Shape := ⟨2, ![1, 2048]⟩
abbrev S1x512x2048 : Shape := ⟨3, ![1, 512, 2048]⟩
abbrev S1x16x2048 : Shape := ⟨3, ![1, 16, 2048]⟩
abbrev S528x2048 : Shape := ⟨2, ![528, 2048]⟩
abbrev S16x2048 : Shape := ⟨2, ![16, 2048]⟩
abbrev S512x2048 : Shape := ⟨2, ![512, 2048]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩

abbrev nBuf : Space → Nat
  | .hbm => 16
  | .vmem => 16
  | .smem => 0
  | _ => 0

abbrev bufTy : (tb : Table) → Fin (tcTables nBuf tb) → BufTy
  | .hbm, ⟨0, _⟩ => ⟨S4x8192x2048, .f32⟩
  | .hbm, ⟨1, _⟩ => ⟨S2048x2048, .f32⟩
  | .hbm, ⟨2, _⟩ => ⟨S4x512x512, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S4x16x2048, .f32⟩
  | .hbm, ⟨8, _⟩ => ⟨S2048x2048, .bf16⟩
  | .hbm, ⟨9, _⟩ => ⟨S4x512x512, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S4x8192x2048, .f32⟩
  | .hbm, ⟨14, _⟩ => ⟨S4x8192x2048, .bf16⟩
  | .hbm, ⟨15, _⟩ => ⟨S4x16x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x16x2048, .f32⟩
  | .local _ .vmem, ⟨3, _⟩ => ⟨S1x16x2048, .f32⟩
  | .local _ .vmem, ⟨4, _⟩ => ⟨S2048x2048, .bf16⟩
  | .local _ .vmem, ⟨5, _⟩ => ⟨S4x512x512, .bf16⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x512x2048, .f32⟩
  | .local _ .vmem, ⟨10, _⟩ => ⟨S1x512x2048, .f32⟩
  | .local _ .vmem, ⟨11, _⟩ => ⟨S1x512x2048, .bf16⟩
  | .local _ .vmem, ⟨12, _⟩ => ⟨S1x512x2048, .bf16⟩
  | .local _ .vmem, ⟨13, _⟩ => ⟨S1x16x2048, .f32⟩
  | .local _ .vmem, ⟨14, _⟩ => ⟨S1x16x2048, .f32⟩
  | .local _ .vmem, ⟨15, _⟩ => ⟨S528x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== PoolRefIdeal.lean ====
abbrev S4x8192x2048 : Shape := ⟨3, ![4, 8192, 2048]⟩
abbrev S2048x2048 : Shape := ⟨2, ![2048, 2048]⟩
abbrev S4x512x512 : Shape := ⟨3, ![4, 512, 512]⟩
abbrev S2048 : Shape := ⟨1, ![2048]⟩
abbrev S_ : Shape := ⟨0, ![]⟩
abbrev S4x8207x2048 : Shape := ⟨3, ![4, 8207, 2048]⟩
abbrev S8192 : Shape := ⟨1, ![8192]⟩
abbrev S8192x1 : Shape := ⟨2, ![8192, 1]⟩
abbrev S2 : Shape := ⟨1, ![2]⟩
abbrev S1x2 : Shape := ⟨2, ![1, 2]⟩
abbrev S8192x2 : Shape := ⟨2, ![8192, 2]⟩
abbrev S4x8207x512 : Shape := ⟨3, ![4, 8207, 512]⟩
abbrev S8192x2x1 : Shape := ⟨3, ![8192, 2, 1]⟩
abbrev S4x8192x2x512 : Shape := ⟨4, ![4, 8192, 2, 512]⟩
abbrev S4x8192x512 : Shape := ⟨3, ![4, 8192, 512]⟩
abbrev S1x8192x1 : Shape := ⟨3, ![1, 8192, 1]⟩
abbrev S1x512x512 : Shape := ⟨3, ![1, 512, 512]⟩
abbrev S512x512 : Shape := ⟨2, ![512, 512]⟩
abbrev S4 : Shape := ⟨1, ![4]⟩
abbrev S1x4 : Shape := ⟨2, ![1, 4]⟩
abbrev S8192x4 : Shape := ⟨2, ![8192, 4]⟩
abbrev S8192x4x1 : Shape := ⟨3, ![8192, 4, 1]⟩
abbrev S4x8192x4x512 : Shape := ⟨4, ![4, 8192, 4, 512]⟩
abbrev S8 : Shape := ⟨1, ![8]⟩
abbrev S1x8 : Shape := ⟨2, ![1, 8]⟩
abbrev S8192x8 : Shape := ⟨2, ![8192, 8]⟩
abbrev S8192x8x1 : Shape := ⟨3, ![8192, 8, 1]⟩
abbrev S4x8192x8x512 : Shape := ⟨4, ![4, 8192, 8, 512]⟩
abbrev S16 : Shape := ⟨1, ![16]⟩
abbrev S1x16 : Shape := ⟨2, ![1, 16]⟩
abbrev S8192x16 : Shape := ⟨2, ![8192, 16]⟩
abbrev S8192x16x1 : Shape := ⟨3, ![8192, 16, 1]⟩
abbrev S4x8192x16x512 : Shape := ⟨4, ![4, 8192, 16, 512]⟩
abbrev S1x1x2048 : Shape := ⟨3, ![1, 1, 2048]⟩
abbrev S4x8192 : Shape := ⟨2, ![4, 8192]⟩
abbrev S4x8192x1 : Shape := ⟨3, ![4, 8192, 1]⟩
abbrev S4x16x2048 : Shape := ⟨3, ![4, 16, 2048]⟩

abbrev nBuf : Space → Nat
  | .hbm => 194
  | .vmem => 0
  | .smem => 0
  | _ => 0

abbrev hbmTy0_0 (i : Nat) : BufTy := match i % 128 with
  | 0 => ⟨S4x8192x2048, .f32⟩
  | 1 => ⟨S2048x2048, .f32⟩
  | 2 => ⟨S4x512x512, .f32⟩
  | 3 => ⟨S2048, .f32⟩
  | 4 => ⟨S2048, .f32⟩
  | 5 => ⟨S2048, .f32⟩
  | 6 => ⟨S4x8192x2048, .f32⟩
  | 7 => ⟨S_, .i32⟩
  | 8 => ⟨S_, .f32⟩
  | 9 => ⟨S4x8207x2048, .f32⟩
  | 10 => ⟨S8192, .i32⟩
  | 11 => ⟨S8192x1, .i32⟩
  | 12 => ⟨S_, .i32⟩
  | 13 => ⟨S8192x1, .i32⟩
  | 14 => ⟨S8192x1, .i32⟩
  | 15 => ⟨S2, .i32⟩
  | 16 => ⟨S1x2, .i32⟩
  | 17 => ⟨S8192x2, .i32⟩
  | 18 => ⟨S8192x2, .i32⟩
  | 19 => ⟨S8192x2, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S8192, .f32⟩
  | 27 => ⟨S4x8207x512, .f32⟩
  | 28 => ⟨S_, .i32⟩
  | 29 => ⟨S8192x2, .i32⟩
  | 30 => ⟨S8192x2, .i1⟩
  | 31 => ⟨S_, .i32⟩
  | 32 => ⟨S8192x2, .i32⟩
  | 33 => ⟨S8192x2, .i32⟩
  | 34 => ⟨S8192x2, .i32⟩
  | 35 => ⟨S8192x2x1, .i32⟩
  | 36 => ⟨S4x8192x2x512, .f32⟩
  | 37 => ⟨S_, .f32⟩
  | 38 => ⟨S4x8192x512, .f32⟩
  | 39 => ⟨S1x8192x1, .f32⟩
  | 40 => ⟨S4x8192x512, .f32⟩
  | 41 => ⟨S4x8192x512, .f32⟩
  | 42 => ⟨S4x8192x512, .f32⟩
  | 43 => ⟨S4x8192x512, .f32⟩
  | 44 => ⟨S1x512x512, .f32⟩
  | 45 => ⟨S512x512, .f32⟩
  | 46 => ⟨S4x8192x512, .f32⟩
  | 47 => ⟨S8192x1, .i32⟩
  | 48 => ⟨S_, .i32⟩
  | 49 => ⟨S8192x1, .i32⟩
  | 50 => ⟨S8192x1, .i32⟩
  | 51 => ⟨S4, .i32⟩
  | 52 => ⟨S1x4, .i32⟩
  | 53 => ⟨S8192x4, .i32⟩
  | 54 => ⟨S8192x4, .i32⟩
  | 55 => ⟨S8192x4, .i32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192, .f32⟩
  | 63 => ⟨S4x8207x512, .f32⟩
  | 64 => ⟨S_, .i32⟩
  | 65 => ⟨S8192x4, .i32⟩
  | 66 => ⟨S8192x4, .i1⟩
  | 67 => ⟨S_, .i32⟩
  | 68 => ⟨S8192x4, .i32⟩
  | 69 => ⟨S8192x4, .i32⟩
  | 70 => ⟨S8192x4, .i32⟩
  | 71 => ⟨S8192x4x1, .i32⟩
  | 72 => ⟨S4x8192x4x512, .f32⟩
  | 73 => ⟨S_, .f32⟩
  | 74 => ⟨S4x8192x512, .f32⟩
  | 75 => ⟨S1x8192x1, .f32⟩
  | 76 => ⟨S4x8192x512, .f32⟩
  | 77 => ⟨S4x8192x512, .f32⟩
  | 78 => ⟨S4x8192x512, .f32⟩
  | 79 => ⟨S4x8192x512, .f32⟩
  | 80 => ⟨S1x512x512, .f32⟩
  | 81 => ⟨S512x512, .f32⟩
  | 82 => ⟨S4x8192x512, .f32⟩
  | 83 => ⟨S8192x1, .i32⟩
  | 84 => ⟨S_, .i32⟩
  | 85 => ⟨S8192x1, .i32⟩
  | 86 => ⟨S8192x1, .i32⟩
  | 87 => ⟨S8, .i32⟩
  | 88 => ⟨S1x8, .i32⟩
  | 89 => ⟨S8192x8, .i32⟩
  | 90 => ⟨S8192x8, .i32⟩
  | 91 => ⟨S8192x8, .i32⟩
  | 92 => ⟨S_, .i32⟩
  | 93 => ⟨S8192, .i32⟩
  | 94 => ⟨S8192, .i32⟩
  | 95 => ⟨S_, .i32⟩
  | 96 => ⟨S8192, .i32⟩
  | 97 => ⟨S8192, .i32⟩
  | 98 => ⟨S8192, .f32⟩
  | 99 => ⟨S4x8207x512, .f32⟩
  | 100 => ⟨S_, .i32⟩
  | 101 => ⟨S8192x8, .i32⟩
  | 102 => ⟨S8192x8, .i1⟩
  | 103 => ⟨S_, .i32⟩
  | 104 => ⟨S8192x8, .i32⟩
  | 105 => ⟨S8192x8, .i32⟩
  | 106 => ⟨S8192x8, .i32⟩
  | 107 => ⟨S8192x8x1, .i32⟩
  | 108 => ⟨S4x8192x8x512, .f32⟩
  | 109 => ⟨S_, .f32⟩
  | 110 => ⟨S4x8192x512, .f32⟩
  | 111 => ⟨S1x8192x1, .f32⟩
  | 112 => ⟨S4x8192x512, .f32⟩
  | 113 => ⟨S4x8192x512, .f32⟩
  | 114 => ⟨S4x8192x512, .f32⟩
  | 115 => ⟨S4x8192x512, .f32⟩
  | 116 => ⟨S1x512x512, .f32⟩
  | 117 => ⟨S512x512, .f32⟩
  | 118 => ⟨S4x8192x512, .f32⟩
  | 119 => ⟨S8192x1, .i32⟩
  | 120 => ⟨S_, .i32⟩
  | 121 => ⟨S8192x1, .i32⟩
  | 122 => ⟨S8192x1, .i32⟩
  | 123 => ⟨S16, .i32⟩
  | 124 => ⟨S1x16, .i32⟩
  | 125 => ⟨S8192x16, .i32⟩
  | 126 => ⟨S8192x16, .i32⟩
  | 127 => ⟨S8192x16, .i32⟩
  | _ => ⟨S4x8192x2048, .f32⟩

abbrev hbmTy0_1 (i : Nat) : BufTy := match i % 128 with
  | 0 => ⟨S_, .i32⟩
  | 1 => ⟨S8192, .i32⟩
  | 2 => ⟨S8192, .i32⟩
  | 3 => ⟨S_, .i32⟩
  | 4 => ⟨S8192, .i32⟩
  | 5 => ⟨S8192, .i32⟩
  | 6 => ⟨S8192, .f32⟩
  | 7 => ⟨S4x8207x512, .f32⟩
  | 8 => ⟨S_, .i32⟩
  | 9 => ⟨S8192x16, .i32⟩
  | 10 => ⟨S8192x16, .i1⟩
  | 11 => ⟨S_, .i32⟩
  | 12 => ⟨S8192x16, .i32⟩
  | 13 => ⟨S8192x16, .i32⟩
  | 14 => ⟨S8192x16, .i32⟩
  | 15 => ⟨S8192x16x1, .i32⟩
  | 16 => ⟨S4x8192x16x512, .f32⟩
  | 17 => ⟨S_, .f32⟩
  | 18 => ⟨S4x8192x512, .f32⟩
  | 19 => ⟨S1x8192x1, .f32⟩
  | 20 => ⟨S4x8192x512, .f32⟩
  | 21 => ⟨S4x8192x512, .f32⟩
  | 22 => ⟨S4x8192x512, .f32⟩
  | 23 => ⟨S4x8192x512, .f32⟩
  | 24 => ⟨S1x512x512, .f32⟩
  | 25 => ⟨S512x512, .f32⟩
  | 26 => ⟨S4x8192x512, .f32⟩
  | 27 => ⟨S_, .f32⟩
  | 28 => ⟨S4x8192x2048, .f32⟩
  | 29 => ⟨S4x8192x2048, .f32⟩
  | 30 => ⟨S4x8192x2048, .f32⟩
  | 31 => ⟨S1x1x2048, .f32⟩
  | 32 => ⟨S4x8192x2048, .f32⟩
  | 33 => ⟨S4x8192x2048, .f32⟩
  | 34 => ⟨S4x8192x2048, .f32⟩
  | 35 => ⟨S_, .f32⟩
  | 36 => ⟨S4x8192, .f32⟩
  | 37 => ⟨S4x8192x1, .f32⟩
  | 38 => ⟨S_, .f32⟩
  | 39 => ⟨S4x8192x1, .f32⟩
  | 40 => ⟨S4x8192x1, .f32⟩
  | 41 => ⟨S4x8192x2048, .f32⟩
  | 42 => ⟨S4x8192x2048, .f32⟩
  | 43 => ⟨S4x8192x2048, .f32⟩
  | 44 => ⟨S_, .f32⟩
  | 45 => ⟨S4x8192, .f32⟩
  | 46 => ⟨S4x8192x1, .f32⟩
  | 47 => ⟨S_, .f32⟩
  | 48 => ⟨S4x8192x1, .f32⟩
  | 49 => ⟨S4x8192x1, .f32⟩
  | 50 => ⟨S4x8192x2048, .f32⟩
  | 51 => ⟨S4x8192x2048, .f32⟩
  | 52 => ⟨S_, .f32⟩
  | 53 => ⟨S4x8192x1, .f32⟩
  | 54 => ⟨S4x8192x1, .f32⟩
  | 55 => ⟨S4x8192x1, .f32⟩
  | 56 => ⟨S4x8192x2048, .f32⟩
  | 57 => ⟨S4x8192x2048, .f32⟩
  | 58 => ⟨S1x1x2048, .f32⟩
  | 59 => ⟨S4x8192x2048, .f32⟩
  | 60 => ⟨S4x8192x2048, .f32⟩
  | 61 => ⟨S1x1x2048, .f32⟩
  | 62 => ⟨S4x8192x2048, .f32⟩
  | 63 => ⟨S4x8192x2048, .f32⟩
  | 64 => ⟨S4x8192x2048, .bf16⟩
  | 65 => ⟨S4x16x2048, .f32⟩
  | _ => ⟨S4x8192x2048, .f32⟩

abbrev hbmTy (i : Nat) : BufTy := match i / 128 with
  | 0 => hbmTy0_0 i
  | 1 => hbmTy0_1 i
  | _ => ⟨S4x8192x2048, .f32⟩

abbrev bufTy : (tb : Table) → Fin (tcTables nBuf tb) → BufTy
  | .hbm, ⟨i, _⟩ => hbmTy i
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_6 : Ref sig .tc := ⟨.hbm, 56, rfl⟩
abbrev main_v41 : Ref sig .tc := ⟨.hbm, 57, rfl⟩
abbrev main_v42 : Ref sig .tc := ⟨.hbm, 58, rfl⟩
abbrev main_c_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_11 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_c_12 : Ref sig .tc := ⟨.hbm, 92, rfl⟩
abbrev main_v71 : Ref sig .tc := ⟨.hbm, 93, rfl⟩
abbrev main_v72 : Ref sig .tc := ⟨.hbm, 94, rfl⟩
abbrev main_c_13 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c_14 : Ref sig .tc := ⟨.hbm, 100, rfl⟩
abbrev main_v77 : Ref sig .tc := ⟨.hbm, 101, rfl⟩
abbrev main_v78 : Ref sig .tc := ⟨.hbm, 102, rfl⟩
abbrev main_c_15 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_16 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_c_17 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_c_18 : Ref sig .tc := ⟨.hbm, 128, rfl⟩
abbrev main_v101 : Ref sig .tc := ⟨.hbm, 129, rfl⟩
abbrev main_v102 : Ref sig .tc := ⟨.hbm, 130, rfl⟩
abbrev main_c_19 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_c_20 : Ref sig .tc := ⟨.hbm, 136, rfl⟩
abbrev main_v107 : Ref sig .tc := ⟨.hbm, 137, rfl⟩
abbrev main_v108 : Ref sig .tc := ⟨.hbm, 138, rfl⟩
abbrev main_c_21 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_22 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_23 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_24 : Ref sig .tc := ⟨.hbm, 163, rfl⟩
abbrev main_v130 : Ref sig .tc := ⟨.hbm, 164, rfl⟩
abbrev main_v131 : Ref sig .tc := ⟨.hbm, 165, rfl⟩
abbrev main_cst_25 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_26 : Ref sig .tc := ⟨.hbm, 172, rfl⟩
abbrev main_v137 : Ref sig .tc := ⟨.hbm, 173, rfl⟩
abbrev main_v138 : Ref sig .tc := ⟨.hbm, 174, rfl⟩
abbrev main_cst_27 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_cst_28 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩

abbrev nD : Nat := 1
abbrev τ : Topo := Topo.v7x

variable {F : FTy → Type} [FloatOps F]
-- ==== Proof.SoftmaxRow.lean ====
/-
  One row of attention over the extended reals: a softmax of the row's scores, times the row's values. Three facts:
  a row may be widened by entries whose score is −∞; the division by the softmax's denominator may be done
  before or after the sum over the values, when the largest score is a real number; and the largest score is a real
  number when every score is real or −∞ and one is real.
-/
module

public import Idealize.ShloMosaic.PureOps.Ideal
public import Idealize.ShloMosaic.Lib.ValueIdx
public import Mathlib.Data.EReal.Operations

@[expose] public section

noncomputable section

namespace Cert.Row

open Idealize.ShloMosaic
open scoped BigOperators

/-- An extended real that is a real number. -/
def IsReal (x : EReal) : Prop := ∃ r : ℝ, x = (r : EReal)

theorem isReal_coe (r : ℝ) : IsReal (r : EReal) := ⟨r, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A finite sum of reals, each written as an extended real, is their sum written so. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- The largest score of a row. -/
def top {n : Nat} (s : Fin n → EReal) : EReal := Finset.univ.fold max ⊥ s

/-- The weight of entry `j` before the division: `exp (sⱼ − max s)`. -/
def wt {n : Nat} (s : Fin n → EReal) (j : Fin n) : EReal := Ideal.exp (s j - top s)

/-- The row's result, divided after the sum over the values. -/
def after {n : Nat} (s v : Fin n → EReal) : EReal := Ideal.div (∑ j, wt s j * v j) (∑ j, wt s j)

/-- The row's result, divided before the sum over the values. -/
def before {n : Nat} (s v : Fin n → EReal) : EReal := ∑ j, v j * Ideal.div (wt s j) (∑ k, wt s k)

theorem top_eq_sup {n : Nat} (s : Fin n → EReal) : top s = Finset.univ.sup s := rfl

theorem le_top {n : Nat} (s : Fin n → EReal) (j : Fin n) : s j ≤ top s := by
  rw [top_eq_sup]; exact Finset.le_sup (Finset.mem_univ j)

/-- Widening a row by entries of score −∞ leaves the largest score. -/
theorem top_widen {n k : Nat} (e : Fin n → Fin k) (s : Fin n → EReal) (s' : Fin k → EReal)
    (hs : ∀ j, s' (e j) = s j) (ho : ∀ i, i ∉ Set.range e → s' i = ⊥) : top s' = top s := by
  apply le_antisymm
  · rw [top_eq_sup, Finset.sup_le_iff]
    intro i _
    by_cases hi : i ∈ Set.range e
    · obtain ⟨j, rfl⟩ := hi
      rw [hs]; exact le_top s j
    · rw [ho i hi]; exact bot_le
  · rw [top_eq_sup, Finset.sup_le_iff]
    intro j _
    rw [← hs]; exact le_top s' (e j)

theorem wt_of_bot {n : Nat} (s : Fin n → EReal) (j : Fin n) (h : s j = ⊥) : wt s j = 0 := by
  unfold wt; rw [h, EReal.bot_sub, Ideal.exp_bot]

/-- Widening a row by entries of score −∞, and giving any values to entries of score −∞, leaves the result. -/
theorem after_widen {n k : Nat} (e : Fin n → Fin k) (he : Function.Injective e) (s v : Fin n → EReal)
    (s' v' : Fin k → EReal) (hs : ∀ j, s' (e j) = s j) (ho : ∀ i, i ∉ Set.range e → s' i = ⊥)
    (hv : ∀ j, s j ≠ ⊥ → v' (e j) = v j) : after s' v' = after s v := by
  have ht := top_widen e s s' hs ho
  have hw : ∀ j, wt s' (e j) = wt s j := fun j => by unfold wt; rw [ht, hs]
  have h0 : ∀ i, i ∉ Set.range e → wt s' i = 0 := fun i hi => wt_of_bot s' i (ho i hi)
  unfold after
  congr 1
  · refine (Fintype.sum_of_injective e he _ _ (fun i hi => ?_) (fun j => ?_)).symm
    · rw [h0 i hi, zero_mul]
    · rw [hw]
      by_cases hb : s j = ⊥
      · rw [wt_of_bot s j hb, zero_mul, zero_mul]
      · rw [hv j hb]
  · exact (Fintype.sum_of_injective e he _ _ (fun i hi => h0 i hi) (fun j => (hw j).symm)).symm

/-- When every score is real or −∞ and one is real, the largest score is real and is a score. -/
theorem top_real {n : Nat} (s : Fin n → EReal) (hs : ∀ j, s j = ⊥ ∨ IsReal (s j)) (j₀ : Fin n) (h₀ : IsReal (s j₀)) :
    IsReal (top s) ∧ ∃ j, s j = top s := by
  obtain ⟨j, -, hj⟩ := Finset.exists_mem_eq_sup Finset.univ ⟨j₀, Finset.mem_univ j₀⟩ s
  have ht : s j = top s := hj.symm
  refine ⟨?_, j, ht⟩
  rw [← ht]
  rcases hs j with h | h
  · exfalso
    have hle := le_top s j₀
    obtain ⟨r, hr⟩ := h₀
    rw [← ht, h, hr] at hle
    exact absurd hle (by simp)
  · exact h

/-- With a real largest score and real values, the division may be done before or after the sum. -/
theorem before_eq_after {n : Nat} (s v : Fin n → EReal) (hs : ∀ j, s j = ⊥ ∨ IsReal (s j)) (j₀ : Fin n)
    (h₀ : IsReal (s j₀)) (hv : ∀ j, IsReal (v j)) : before s v = after s v := by
  obtain ⟨⟨m, hm⟩, j₁, h₁⟩ := top_real s hs j₀ h₀
  have hw : ∀ j, ∃ r : ℝ, 0 ≤ r ∧ wt s j = (r : EReal) := fun j => by
    rcases hs j with h | ⟨r, h⟩
    · exact ⟨0, le_refl _, by rw [wt_of_bot s j h]; rfl⟩
    · refine ⟨Real.exp (r - m), (Real.exp_pos _).le, ?_⟩
      unfold wt
      rw [hm, h, ← EReal.coe_sub, Ideal.exp_coe]
  choose w hw0 hw using hw
  choose u hu using hv
  have hpos : 0 < ∑ j, w j := by
    refine Finset.sum_pos' (fun j _ => hw0 j) ⟨j₁, Finset.mem_univ _, ?_⟩
    have : (w j₁ : EReal) = ((Real.exp 0 : ℝ) : EReal) := by
      rw [← hw]; unfold wt
      rw [h₁, hm, ← EReal.coe_sub, sub_self, Ideal.exp_coe]
    rw [EReal.coe_eq_coe_iff.mp this]
    exact Real.exp_pos 0
  have hl : ∑ j, wt s j = ((∑ j, w j : ℝ) : EReal) := by
    rw [coe_sum]; exact Finset.sum_congr rfl fun j _ => hw j
  unfold before after
  rw [hl, Ideal.div_coe hpos.ne']
  have e1 : ∀ j, v j * Ideal.div (wt s j) ((∑ j, w j : ℝ) : EReal) = ((w j * u j * (1 / ∑ j, w j) : ℝ) : EReal) := fun j => by
    rw [Ideal.div_coe hpos.ne', hw, hu, ← EReal.coe_mul, ← EReal.coe_mul]
    congr 1; ring
  have e2 : ∀ j, wt s j * v j = ((w j * u j : ℝ) : EReal) := fun j => by rw [hw, hu, ← EReal.coe_mul]
  rw [Finset.sum_congr rfl fun j _ => e1 j, Finset.sum_congr rfl fun j _ => e2 j, ← coe_sum, ← coe_sum, ← EReal.coe_mul,
    Finset.sum_mul]

end Cert.Row

end
-- ==== Proof.AttnHead.lean ====
/-
  One head of one step of the attention kernel, at an index: the head's block of the result is a row of attention
  (`Cert.Row.after`) over the 640 columns of the window, its scores being the products of the query's row with the
  keys' rows, scaled, plus the bias, where the mask lets them through, and −∞ elsewhere.
-/
module

public import proofs.«01_k».proof.Proof.Gen.KernelIdeal.Skeleton
public import proofs.«01_k».proof.Proof.SoftmaxRow
public import Idealize.ShloMosaic.Lib.Pointwise
public import Idealize.ShloMosaic.Lib.Pipeline.Value

@[expose] public section

noncomputable section

namespace Cert.Attn

open Idealize.ShloMosaic Cert.KernelIdeal Cert.KernelIdeal.Gen
open scoped BigOperators

/-- The scale of the scores, one over the root of the head's width. -/
def sc : EReal := (((Real.sqrt 128)⁻¹ : ℝ) : EReal)

theorem named_s : Named.named (F := Ideal) κ "s" (φ := .f32) 1035273459#32 = sc :=
  IdealRules.named_const.ideal_named_scalar _ _ _ _ rfl

theorem named_mask : Named.named (F := Ideal) κ "mask" (φ := .f32) 4048155338#32 = (⊥ : EReal) :=
  IdealRules.named_const.ideal_named_scalar _ _ _ _ rfl

theorem ofBits_neg_inf : Ideal.ofBits FTy.f32 4286578688#32 = (⊥ : EReal) := by
  simp [Idealize.ShloMosaic.Ideal.ofBits, Idealize.ShloMosaic.Ideal.ieee]

/-- The score of column `x` for the query's row `r`: `q · k` scaled plus the bias where `ok` holds, −∞ elsewhere. -/
def score (ok : BitVec 1) (dot b : EReal) : EReal := Scalar.select ok (dot * sc + b) ⊥

theorem head_apply (ok : IVec S128x640 1) (q : Vec Ideal S1x128x128 .bf16) (k v : Vec Ideal S640x128 .bf16)
    (b : Vec Ideal S1x128x640 .f32) (i : S1x128x128.Idx) :
    k0_pay9 (F := Ideal) ok q k v b i
      = Row.after
          (fun x : Fin 640 => score (ok (ValueIdx.ix2 (i 1) x))
            (∑ d : Fin 128, (q (ValueIdx.ix3 0 (i 1) d) : EReal) * k (ValueIdx.ix2 x d)) (b (ValueIdx.ix3 0 (i 1) x)))
          (fun x : Fin 640 => (v (ValueIdx.ix2 x (i 2)) : EReal)) := by
  unfold k0_pay9
  pointwise
  rw [named_s, named_mask, ofBits_neg_inf]
  rfl

/-- The mask's two tests of a position counted from the 512th row before the array. -/
theorem mask_tests : ∀ a : Fin 8704,
    IntOp.andi (IntOp.cmpi .sge (4294966784#32 + BitVec.ofNat 32 a.val) 0#32)
      (IntOp.cmpi .slt (4294966784#32 + BitVec.ofNat 32 a.val) 8192#32)
      = if 512 ≤ a.val then 1#1 else 0#1 := by
  decide +kernel

/-- The position of column `x` of trip `k` of block `i`, as the kernel's 32-bit words compute it. -/
theorem mask_word (i k x : ℕ) (hi : i < 16) (hk : k < 4) (hx : x < 640) :
    IntOp.addi
      (Scalar.addi (Scalar.addi (4294966784#32) (Scalar.muli (BitVec.ofNat 32 i) 512#32))
        (Scalar.muli (Scf.iv 0#32 1#32 k) 128#32))
      (BitVec.ofNat 32 x) = 4294966784#32 + BitVec.ofNat 32 (512 * i + 128 * k + x) := by
  simp only [IntOp.addi, Scalar.addi, Scalar.muli, IntOp.muli, Scf.iv]
  apply BitVec.eq_of_toNat_eq
  simp
  omega

/-- Whether a position counted from the 512th row before the array is in the array. -/
def on (a : ℕ) : BitVec 1 := if 512 ≤ a then 1#1 else 0#1

/-- Where the mask of trip `k` of block `i` lets column `x` through: from the 512th row before the array on. -/
theorem mask_apply (i : Fin 16) (k : Fin k0_t1_loop.trips) (v20 : IVec S128x640 32) (r : Fin 128) (x : Fin 640)
    (h20 : v20 (ValueIdx.ix2 r x) = BitVec.ofNat 32 x.val) :
    k0_pay6 (BitVec.ofNat 32 i.val) v20 0#32 1#32 k (ValueIdx.ix2 r x)
      = on (512 * i.val + 128 * k.val + x.val) := by
  have hk : k.val < 4 := Nat.lt_of_lt_of_le k.isLt k0_t1_abs.2.1
  unfold k0_pay6
  pointwise
  rw [h20, mask_word i.val k.val x.val i.isLt hk x.isLt]
  exact mask_tests ⟨512 * i.val + 128 * k.val + x.val, by omega⟩

end Cert.Attn
end
-- ==== Proof.AttnAt.lean ====
/-
  Arrays read at numbers: an index out of range is taken modulo the axis, so no bound is carried around.
-/
module

public import Idealize.ShloMosaic.Lib.ValueIdx

@[expose] public section

namespace Cert.Attn

open Idealize.ShloMosaic

variable {α : Type}

/-- A matrix at a row and a column. -/
def at2 {m n : ℕ} [NeZero m] [NeZero n] (X : (⟨2, ![m, n]⟩ : Shape).Idx → α) (r c : ℕ) : α :=
  X (ValueIdx.ix2 (Fin.ofNat m r) (Fin.ofNat n c))

/-- A three-axis array at three numbers. -/
def at3 {l m n : ℕ} [NeZero l] [NeZero m] [NeZero n] (X : (⟨3, ![l, m, n]⟩ : Shape).Idx → α) (b r c : ℕ) : α :=
  X (ValueIdx.ix3 (Fin.ofNat l b) (Fin.ofNat m r) (Fin.ofNat n c))

theorem ofNat_val {n : ℕ} [NeZero n] (x : Fin n) : Fin.ofNat n x.val = x :=
  Fin.ext (Nat.mod_eq_of_lt x.isLt)

theorem eq_at2 {m n : ℕ} [NeZero m] [NeZero n] (X : (⟨2, ![m, n]⟩ : Shape).Idx → α) (i : (⟨2, ![m, n]⟩ : Shape).Idx)
    (r c : ℕ) (hr : (i 0).val = r) (hc : (i 1).val = c) : X i = at2 X r c := by
  subst hr hc
  unfold at2
  refine congrArg X (funext fun a => ?_)
  match a with
  | ⟨0, _⟩ => exact (ofNat_val (n := m) (i 0)).symm
  | ⟨1, _⟩ => exact (ofNat_val (n := n) (i 1)).symm

theorem eq_at3 {l m n : ℕ} [NeZero l] [NeZero m] [NeZero n] (X : (⟨3, ![l, m, n]⟩ : Shape).Idx → α)
    (i : (⟨3, ![l, m, n]⟩ : Shape).Idx) (b r c : ℕ) (hb : (i 0).val = b) (hr : (i 1).val = r) (hc : (i 2).val = c) :
    X i = at3 X b r c := by
  subst hb hr hc
  unfold at3
  refine congrArg X (funext fun a => ?_)
  match a with
  | ⟨0, _⟩ => exact (ofNat_val (n := l) (i 0)).symm
  | ⟨1, _⟩ => exact (ofNat_val (n := m) (i 1)).symm
  | ⟨2, _⟩ => exact (ofNat_val (n := n) (i 2)).symm

/-- The entry of the bias table for a query at place `iq` of its chunk and column `ik` of the band: the distance
    `512 + iq - ik`, clipped to −63 … 256, counted from −63. -/
def place (iq ik : ℕ) : ℕ := min (575 + iq - ik) 319

end Cert.Attn
-- ==== Proof.AttnTrip.lean ====
/-
  One step of the attention kernel's loop: each of the sixteen blocks it stores holds, at every index, the attention
  row of that head and that row of the step.
-/
module

public import proofs.«01_k».proof.Proof.AttnHead
public import proofs.«01_k».proof.Proof.AttnAt
public import proofs.«01_k».proof.Proof.Gen.KernelIdeal.Loops
public import Idealize.ShloMosaic.Lib.Pipeline.ValueKit.Tiles

@[expose] public section

set_option maxRecDepth 16384

noncomputable section

namespace Cert.Attn

open Idealize.ShloMosaic Cert.KernelIdeal Cert.KernelIdeal.Gen
open scoped BigOperators

/-- What the kernel leaves in its block `i` of the result, at row `r` and column `c`: head `c / 128`, step `r / 128`,
    from the queries' block, the two scratch buffers of keys and values, and the bias. -/
def blockVal (i : ℕ) (Q : S1x512x2048.Idx → EReal) (K V : S1024x2048.Idx → EReal) (B : S16x128x640.Idx → EReal)
    (r c : ℕ) : EReal :=
  Row.after
    (fun x : Fin 640 => score (on (512 * i + 128 * (r / 128) + x.val))
      (∑ d : Fin 128, at3 Q 0 r (128 * (c / 128) + d.val) * at2 K (128 * (r / 128) + x.val) (128 * (c / 128) + d.val))
      (at3 B (c / 128) (r % 128) x.val))
    (fun x : Fin 640 => at2 V (128 * (r / 128) + x.val) c)

variable {v2 : View sig .tc .vmem S1x512x2048 .bf16} {v7 : View sig .tc .vmem S16x128x640 .f32}
  {v9 v10 : View sig .tc .vmem S1024x2048 .bf16}

theorem piece_spec (X2 : v2.ty.Contents (Elt Ideal)) (X7 : v7.ty.Contents (Elt Ideal))
    (X9 : v9.ty.Contents (Elt Ideal)) (X10 : v10.ty.Contents (Elt Ideal))
    (i : Fin 16) (k : Fin k0_t1_loop.trips) (v20 : IVec S128x640 32)
    (h20 : ∀ r x, v20 (ValueIdx.ix2 r x) = BitVec.ofNat 32 x.val) (h : ℕ) (hh : h < 16)
    (oq : Fin 3 → ℕ) (ok ov : Fin 2 → ℕ) (ob : Fin 3 → ℕ) (iq ik iv ib)
    (hq : oq = ![0, 128 * k.val, 128 * h]) (hk : ok = ![128 * k.val, 128 * h]) (hv : ov = ![128 * k.val, 128 * h])
    (hb : ob = ![h, 0, 0]) (x : S1x128x128.Idx) (y : S1x512x2048.Idx)
    (hy : y = (Rect.unit (s := S1x512x2048) oq ![1, 128, 128] iq).emb x) :
    k0_pay9 (F := Ideal) (k0_pay6 (BitVec.ofNat 32 i.val) v20 0#32 1#32 k)
      (View.readAt (Elt Ideal) v2 (Rect.unit (s := S1x512x2048) oq ![1, 128, 128] iq).toLoadRect X2)
      (View.readAt (Elt Ideal) v9 (Rect.unit (s := S1024x2048) ok ![640, 128] ik).toLoadRect X9)
      (View.readAt (Elt Ideal) v10 (Rect.unit (s := S1024x2048) ov ![640, 128] iv).toLoadRect X10)
      (View.readAt (Elt Ideal) v7 (Rect.unit (s := S16x128x640) ob ![1, 128, 640] ib).toLoadRect X7) x
      = blockVal i.val (v2.read (Elt Ideal) X2) (v9.read (Elt Ideal) X9) (v10.read (Elt Ideal) X10)
          (v7.read (Elt Ideal) X7) (y 1).val (y 2).val := by
  subst hq hk hv hb hy
  have hk4 : k.val < 4 := Nat.lt_of_lt_of_le k.isLt k0_t1_abs.2.1
  have h1 : (x 1).val < 128 := (x 1).isLt
  have h2 : (x 2).val < 128 := (x 2).isLt
  have e1 : (((Rect.unit (s := S1x512x2048) ![0, 128 * k.val, 128 * h] ![1, 128, 128] iq).emb x) 1).val
      = 128 * k.val + (x 1).val := by
    exact Rect.idx_unit_val _ _ _ _ _
  have e2 : (((Rect.unit (s := S1x512x2048) ![0, 128 * k.val, 128 * h] ![1, 128, 128] iq).emb x) 2).val
      = 128 * h + (x 2).val := by
    exact Rect.idx_unit_val _ _ _ _ _
  rw [head_apply, e1, e2]
  unfold blockVal
  have d1 : (128 * k.val + (x 1).val) / 128 = k.val := by omega
  have d2 : (128 * h + (x 2).val) / 128 = h := by omega
  have d3 : (128 * k.val + (x 1).val) % 128 = (x 1).val := by omega
  rw [d1, d2, d3]
  congr 1
  · funext c
    rw [mask_apply i k v20 (x 1) c (h20 _ _)]
    congr 1
    · refine Finset.sum_congr rfl fun d _ => ?_
      congr 1
      · exact eq_at3 _ _ _ _ _ (Rect.idx_unit_val _ _ _ _ _) (Rect.idx_unit_val _ _ _ _ _) (Rect.idx_unit_val _ _ _ _ _)
      · exact eq_at2 _ _ _ _ (Rect.idx_unit_val _ _ _ _ _) (Rect.idx_unit_val _ _ _ _ _)
    · exact eq_at3 _ _ _ _ _ (Rect.idx_unit_val _ _ _ _ _) ((Rect.idx_unit_val _ _ _ _ _).trans (Nat.zero_add _))
        ((Rect.idx_unit_val _ _ _ _ _).trans (Nat.zero_add _))
  · funext c
    exact eq_at2 _ _ _ _ (Rect.idx_unit_val _ _ _ _ _) (Rect.idx_unit_val _ _ _ _ _)

/-- One step of the loop: every piece it stores agrees with `blockVal`. -/
theorem trip_pieces (c : Dev nD) (i : grid0.Coords) (arg2 : Memref sig .tc .vmem S1x512x2048 .bf16) (harg2 : arg2.IsWhole) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x512x2048 .bf16) (harg6 : arg6.IsWhole) (arg7 : Memref sig .tc .vmem S16x128x640 .f32) (harg7 : arg7.IsWhole) (arg8 : Memref sig .tc .vmem S1x512x2048 .bf16) (harg8 : arg8.IsWhole) (arg9 : Memref sig .tc .vmem S1024x2048 .bf16) (harg9 : arg9.IsWhole) (arg10 : Memref sig .tc .vmem S1024x2048 .bf16) (harg10 : arg10.IsWhole)
    (v20 : IVec S128x640 32) (h20 : ∀ r x, v20 (ValueIdx.ix2 r x) = BitVec.ofNat 32 x.val)
    (X2 : arg2.view.ty.Contents (Elt Ideal)) (X7 : arg7.view.ty.Contents (Elt Ideal))
    (X9 : arg9.view.ty.Contents (Elt Ideal)) (X10 : arg10.view.ty.Contents (Elt Ideal)) (k : Fin k0_t1_loop.trips) :
    ∀ p ∈ (trip_k0_t1 (F := Ideal) Variants.none c none i arg2 harg2 arg3 harg3 arg4 harg4 arg5 harg5 arg6 harg6 arg7 harg7 arg8 harg8 arg9 harg9 arg10 harg10 (BitVec.ofNat 32 (i 1).val) v20 X2 X7 X9 X10 k).1,
      ∀ x : p.1.shape.Idx, p.2 x = blockVal (i 1).val (arg2.view.read (Elt Ideal) X2) (arg9.view.read (Elt Ideal) X9)
        (arg10.view.read (Elt Ideal) X10) (arg7.view.read (Elt Ideal) X7) ((p.1.emb x) 1).val ((p.1.emb x) 2).val := by
  unfold trip_k0_t1
  dsimp only
  refine List.forall_mem_cons.2 ⟨fun x => piece_spec X2 X7 X9 X10 (i 1) k v20 h20 15 (by decide) _ _ _ _ _ _ _ _
    (k0_off31_eq k) (k0_off32_eq k) (k0_off32_eq k) rfl x _ rfl, ?_⟩
  refine List.forall_mem_cons.2 ⟨fun x => piece_spec X2 X7 X9 X10 (i 1) k v20 h20 14 (by decide) _ _ _ _ _ _ _ _
    (k0_off29_eq k) (k0_off30_eq k) (k0_off30_eq k) rfl x _ rfl, ?_⟩
  refine List.forall_mem_cons.2 ⟨fun x => piece_spec X2 X7 X9 X10 (i 1) k v20 h20 13 (by decide) _ _ _ _ _ _ _ _
    (k0_off27_eq k) (k0_off28_eq k) (k0_off28_eq k) rfl x _ rfl, ?_⟩
  refine List.forall_mem_cons.2 ⟨fun x => piece_spec X2 X7 X9 X10 (i 1) k v20 h20 12 (by decide) _ _ _ _ _ _ _ _
    (k0_off25_eq k) (k0_off26_eq k) (k0_off26_eq k) rfl x _ rfl, ?_⟩
  refine List.forall_mem_cons.2 ⟨fun x => piece_spec X2 X7 X9 X10 (i 1) k v20 h20 11 (by decide) _ _ _ _ _ _ _ _
    (k0_off23_eq k) (k0_off24_eq k) (k0_off24_eq k) rfl x _ rfl, ?_⟩
  refine List.forall_mem_cons.2 ⟨fun x => piece_spec X2 X7 X9 X10 (i 1) k v20 h20 10 (by decide) _ _ _ _ _ _ _ _
    (k0_off21_eq k) (k0_off22_eq k) (k0_off22_eq k) rfl x _ rfl, ?_⟩
  refine List.forall_mem_cons.2 ⟨fun x => piece_spec X2 X7 X9 X10 (i 1) k v20 h20 9 (by decide) _ _ _ _ _ _ _ _
    (k0_off19_eq k) (k0_off20_eq k) (k0_off20_eq k) rfl x _ rfl, ?_⟩
  refine List.forall_mem_cons.2 ⟨fun x => piece_spec X2 X7 X9 X10 (i 1) k v20 h20 8 (by decide) _ _ _ _ _ _ _ _
    (k0_off17_eq k) (k0_off18_eq k) (k0_off18_eq k) rfl x _ rfl, ?_⟩
  refine List.forall_mem_cons.2 ⟨fun x => piece_spec X2 X7 X9 X10 (i 1) k v20 h20 7 (by decide) _ _ _ _ _ _ _ _
    (k0_off15_eq k) (k0_off16_eq k) (k0_off16_eq k) rfl x _ rfl, ?_⟩
  refine List.forall_mem_cons.2 ⟨fun x => piece_spec X2 X7 X9 X10 (i 1) k v20 h20 6 (by decide) _ _ _ _ _ _ _ _
    (k0_off13_eq k) (k0_off14_eq k) (k0_off14_eq k) rfl x _ rfl, ?_⟩
  refine List.forall_mem_cons.2 ⟨fun x => piece_spec X2 X7 X9 X10 (i 1) k v20 h20 5 (by decide) _ _ _ _ _ _ _ _
    (k0_off11_eq k) (k0_off12_eq k) (k0_off12_eq k) rfl x _ rfl, ?_⟩
  refine List.forall_mem_cons.2 ⟨fun x => piece_spec X2 X7 X9 X10 (i 1) k v20 h20 4 (by decide) _ _ _ _ _ _ _ _
    (k0_off9_eq k) (k0_off10_eq k) (k0_off10_eq k) rfl x _ rfl, ?_⟩
  refine List.forall_mem_cons.2 ⟨fun x => piece_spec X2 X7 X9 X10 (i 1) k v20 h20 3 (by decide) _ _ _ _ _ _ _ _
    (k0_off7_eq k) (k0_off8_eq k) (k0_off8_eq k) rfl x _ rfl, ?_⟩
  refine List.forall_mem_cons.2 ⟨fun x => piece_spec X2 X7 X9 X10 (i 1) k v20 h20 2 (by decide) _ _ _ _ _ _ _ _
    (k0_off5_eq k) (k0_off6_eq k) (k0_off6_eq k) rfl x _ rfl, ?_⟩
  refine List.forall_mem_cons.2 ⟨fun x => piece_spec X2 X7 X9 X10 (i 1) k v20 h20 1 (by decide) _ _ _ _ _ _ _ _
    (k0_off3_eq k) (k0_off4_eq k) (k0_off4_eq k) rfl x _ rfl, ?_⟩
  refine List.forall_mem_cons.2 ⟨fun x => piece_spec X2 X7 X9 X10 (i 1) k v20 h20 0 (by decide) _ _ _ _ _ _ _ _
    (k0_off1_eq k) (k0_off2_eq k) (k0_off2_eq k) rfl x _ rfl, ?_⟩
  exact fun p hp => absurd hp List.not_mem_nil

end Cert.Attn
end
-- ==== Proof.AttnBlock.lean ====
/-
  One block of the attention kernel: what a point of the grid leaves in its block of the result, from its six input
  blocks.
-/
module

public import proofs.«01_k».proof.Proof.AttnTrip
public import proofs.«01_k».proof.Proof.Gen.KernelIdeal.Frame
public import Idealize.ShloMosaic.Lib.Writes

@[expose] public section

set_option maxRecDepth 16384

noncomputable section

namespace Cert.Attn

open Idealize.ShloMosaic Cert.KernelIdeal Cert.KernelIdeal.Gen
open scoped BigOperators

/-- A scratch buffer after the kernel's two copies: the block before, then the current block. -/
def scratch (p q : S1x512x2048.Idx → EReal) (j : S1024x2048.Idx) : EReal :=
  if (j 0).val < 512 then at3 p 0 (j 0).val (j 1).val else at3 q 0 ((j 0).val - 512) (j 1).val

theorem castRow_apply (v : Vec Ideal S1x512x2048 .bf16) (x : S512x2048.Idx) :
    k0_pay1 (F := Ideal) v x = at3 (α := EReal) v 0 (x 0).val (x 1).val := by
  unfold k0_pay1
  pointwise
  exact eq_at3 (α := EReal) _ _ _ _ _ rfl rfl rfl

/-- The two copies into a scratch buffer, read back. -/
theorem scratch_read (w : View sig .tc .vmem S1024x2048 .bf16) (f)
    (xp xq : Vec Ideal S1x512x2048 .bf16) (i1 i2) :
    w.read (Elt Ideal) (w.writes (Elt Ideal) f
      [⟨Rect.unit (s := S1024x2048) ![512, 0] S512x2048.size i1, k0_pay1 (F := Ideal) xq⟩,
       ⟨Rect.unit (s := S1024x2048) ![0, 0] S512x2048.size i2, k0_pay1 (F := Ideal) xp⟩]) = scratch xp xq := by
  funext y
  refine View.read_writes_apply_of_pieces w f (scratch xp xq) _ ?_ y ?_
  · refine List.forall_mem_cons.2 ⟨fun x => ?_, List.forall_mem_cons.2 ⟨fun x => ?_, fun p hp => absurd hp List.not_mem_nil⟩⟩
    · refine (castRow_apply xq x).trans ?_
      have e0 := Rect.idx_unit_val (s := S1024x2048) ![512, 0] S512x2048.size i1 x 0
      have e1 := Rect.idx_unit_val (s := S1024x2048) ![512, 0] S512x2048.size i1 x 1
      change (_ : ℕ) = 512 + (x 0).val at e0
      change (_ : ℕ) = 0 + (x 1).val at e1
      change _ = scratch xp xq ((Rect.unit (s := S1024x2048) ![512, 0] S512x2048.size i1).idx x)
      unfold scratch
      rw [e0, e1, if_neg (by omega), Nat.add_sub_cancel_left, Nat.zero_add]
    · refine (castRow_apply xp x).trans ?_
      have hx : (x 0).val < 512 := (x 0).isLt
      have e0 := Rect.idx_unit_val (s := S1024x2048) ![0, 0] S512x2048.size i2 x 0
      have e1 := Rect.idx_unit_val (s := S1024x2048) ![0, 0] S512x2048.size i2 x 1
      change (_ : ℕ) = 0 + (x 0).val at e0
      change (_ : ℕ) = 0 + (x 1).val at e1
      change _ = scratch xp xq ((Rect.unit (s := S1024x2048) ![0, 0] S512x2048.size i2).idx x)
      unfold scratch
      rw [e0, e1, if_pos (by omega), Nat.zero_add, Nat.zero_add]
  · have h0 : (y 0).val < 1024 := (y 0).isLt
    have h1 : (y 1).val < 2048 := (y 1).isLt
    by_cases h : (y 0).val < 512
    · refine ⟨_, List.mem_cons_of_mem _ List.mem_cons_self, (Rect.mem_set_unit (inb := i2)).2 fun a => ?_⟩
      match a with
      | ⟨0, _⟩ => exact ⟨Nat.zero_le _, show (y 0).val < 0 + 512 by omega⟩
      | ⟨1, _⟩ => exact ⟨Nat.zero_le _, show (y 1).val < 0 + 2048 by omega⟩
    · refine ⟨_, List.mem_cons_self, (Rect.mem_set_unit (inb := i1)).2 fun a => ?_⟩
      match a with
      | ⟨0, _⟩ => exact ⟨show 512 ≤ (y 0).val by omega, show (y 0).val < 512 + 512 by omega⟩
      | ⟨1, _⟩ => exact ⟨Nat.zero_le _, show (y 1).val < 0 + 2048 by omega⟩

/-- A whole block read through the rectangle that is all of it. -/
theorem readAll (w : Memref sig .tc .vmem S1x512x2048 .bf16) (hw : w.IsWhole) (x : Vec Ideal S1x512x2048 .bf16) (inb) :
    View.readAt (Elt Ideal) w.view (Rect.unit (s := S1x512x2048) ![0, 0, 0] S1x512x2048.size inb).toLoadRect
      (hw.unread x) = x := by
  funext j
  rw [View.readAt_apply, hw.read_unread]
  refine congrArg x (funext fun a => Fin.ext ?_)
  match a with
  | ⟨0, _⟩ => exact (Rect.idx_unit_val _ _ _ _ _).trans (Nat.zero_add _)
  | ⟨1, _⟩ => exact (Rect.idx_unit_val _ _ _ _ _).trans (Nat.zero_add _)
  | ⟨2, _⟩ => exact (Rect.idx_unit_val _ _ _ _ _).trans (Nat.zero_add _)

variable (c : Dev nD) (i : grid0.Coords)
    (arg2 : Memref sig .tc .vmem S1x512x2048 .bf16) (harg2 : arg2.IsWhole)
    (arg3 : Memref sig .tc .vmem S1x512x2048 .bf16) (harg3 : arg3.IsWhole)
    (arg4 : Memref sig .tc .vmem S1x512x2048 .bf16) (harg4 : arg4.IsWhole)
    (arg5 : Memref sig .tc .vmem S1x512x2048 .bf16) (harg5 : arg5.IsWhole)
    (arg6 : Memref sig .tc .vmem S1x512x2048 .bf16) (harg6 : arg6.IsWhole)
    (arg7 : Memref sig .tc .vmem S16x128x640 .f32) (harg7 : arg7.IsWhole)
    (arg8 : Memref sig .tc .vmem S1x512x2048 .bf16) (harg8 : arg8.IsWhole)
    (arg9 : Memref sig .tc .vmem S1024x2048 .bf16) (harg9 : arg9.IsWhole)
    (arg10 : Memref sig .tc .vmem S1024x2048 .bf16) (harg10 : arg10.IsWhole)

/-- The steps before step `n`: every piece they store agrees with `blockVal`. -/
theorem loop_pieces (v20 : IVec S128x640 32) (h20 : ∀ r x, v20 (ValueIdx.ix2 r x) = BitVec.ofNat 32 x.val)
    (X2 : arg2.view.ty.Contents (Elt Ideal)) (X7 : arg7.view.ty.Contents (Elt Ideal))
    (X9 : arg9.view.ty.Contents (Elt Ideal)) (X10 : arg10.view.ty.Contents (Elt Ideal)) (n : ℕ)
    (hn : n ≤ k0_t1_loop.trips) :
    ∀ p ∈ pb_k0_t1 (F := Ideal) Variants.none c none i arg2 harg2 arg3 harg3 arg4 harg4 arg5 harg5 arg6 harg6 arg7 harg7 arg8 harg8 arg9 harg9 arg10 harg10 (BitVec.ofNat 32 (i 1).val) v20 X2 X7 X9 X10 n,
      ∀ x : p.1.shape.Idx, p.2 x = blockVal (i 1).val (arg2.view.read (Elt Ideal) X2) (arg9.view.read (Elt Ideal) X9)
        (arg10.view.read (Elt Ideal) X10) (arg7.view.read (Elt Ideal) X7) ((p.1.emb x) 1).val ((p.1.emb x) 2).val := by
  induction n with
  | zero => exact fun p hp => absurd hp List.not_mem_nil
  | succ n ih =>
    intro p hp
    rw [pb_k0_t1_succ Variants.none c none i arg2 harg2 arg3 harg3 arg4 harg4 arg5 harg5 arg6 harg6 arg7 harg7 arg8 harg8 arg9 harg9 arg10 harg10 _ v20 X2 X7 X9 X10 ⟨n, hn⟩] at hp
    rcases List.mem_append.1 hp with hp | hp
    · exact trip_pieces c i arg2 harg2 arg3 harg3 arg4 harg4 arg5 harg5 arg6 harg6 arg7 harg7 arg8 harg8 arg9 harg9 arg10 harg10 v20 h20 X2 X7 X9 X10 ⟨n, hn⟩ p hp
    · exact ih (Nat.le_of_succ_le hn) p hp

/-- The columns' numbers, as the kernel counts them. -/
theorem columns_apply (r : Fin 128) (x : Fin 640) :
    kernelRun0_A.sl.v20 (ValueIdx.ix2 r x) = BitVec.ofNat 32 x.val := by
  unfold kernelRun0_A.sl.v20
  pointwise

/-- What a point leaves in its block of the result. -/
theorem out_apply (x0 : Vec Ideal S1x512x2048 .bf16) (x1 : Vec Ideal S1x512x2048 .bf16) (x2 : Vec Ideal S1x512x2048 .bf16) (x3 : Vec Ideal S1x512x2048 .bf16) (x4 : Vec Ideal S1x512x2048 .bf16) (x5 : Vec Ideal S16x128x640 .f32) (y : S1x512x2048.Idx) :
    out0_A_6 (F := Ideal) c i arg2 harg2 arg3 harg3 arg4 harg4 arg5 harg5 arg6 harg6 arg7 harg7 arg8 harg8 arg9 harg9 arg10 harg10 x0 x1 x2 x3 x4 x5 y
      = blockVal (i 1).val x0 (scratch x1 x2) (scratch x3 x4) x5 (y 1).val (y 2).val := by
  unfold out0_A_6
  refine View.read_writes_apply_of_pieces VO0_6 _
    (fun y : S1x512x2048.Idx => blockVal (i 1).val x0 (scratch x1 x2) (scratch x3 x4) x5 (y 1).val (y 2).val) _ ?_ y
    (cover0_A_6 c i arg2 harg2 arg3 harg3 arg4 harg4 arg5 harg5 arg6 harg6 arg7 harg7 arg8 harg8 arg9 harg9 arg10 harg10 x0 x1 x2 x3 x4 x5 y)
  intro p hp x
  unfold kernelRun0_A at hp
  dsimp only at hp
  have h := loop_pieces c i arg2 harg2 arg3 harg3 arg4 harg4 arg5 harg5 arg6 harg6 arg7 harg7 arg8 harg8 arg9 harg9 arg10 harg10 kernelRun0_A.sl.v20 columns_apply _ _ _ _ _ le_rfl p hp x
  rw [h, harg2.read_unread, harg7.read_unread]
  unfold kernelRun0_A.sl.HS0_2 kernelRun0_A.sl.HS1_2
  rw [readAll arg3 harg3, readAll arg4 harg4, readAll arg5 harg5, readAll arg6 harg6]
  congr 1
  · exact scratch_read arg9.view _ x1 x2 _ _
  · exact scratch_read arg10.view _ x3 x4 _ _

end Cert.Attn
end
-- ==== Proof.AttnArray.lean ====
/-
  The array the attention kernel leaves, at every index: the block of the grid's point that writes it, the point's
  input blocks read off the argument and off the bias.
-/
module

public import proofs.«01_k».proof.Proof.AttnBlock
public import proofs.«01_k».proof.Proof.Gen.KernelIdeal.Value
public import Idealize.ShloMosaic.Lib.Pipeline.ValueKit.Point

@[expose] public section

set_option maxRecDepth 16384

noncomputable section

namespace Cert.Attn

open Idealize.ShloMosaic Idealize.ShloMosaic.TcCoe Cert.KernelIdeal Cert.KernelIdeal.Gen
open scoped BigOperators

/-- Block `n` of 512 rows of batch `b` of the fused array: queries (`w = 0`), keys (`w = 1`) or values (`w = 2`). -/
def block (Q : S4x8192x6144.Idx → EReal) (b n w : ℕ) (j : S1x512x2048.Idx) : EReal :=
  at3 Q b (512 * n + (j 1).val) (2048 * w + (j 2).val)

/-- The kernel's result at batch `b`, row `s`, column `x`. -/
def kernelVal (Q : S4x8192x6144.Idx → EReal) (B : S16x128x640.Idx → EReal) (b s x : ℕ) : EReal :=
  blockVal (s / 512) (block Q b (s / 512) 0) (scratch (block Q b (s / 512 - 1) 1) (block Q b (s / 512) 1))
    (scratch (block Q b (s / 512 - 1) 2) (block Q b (s / 512) 2)) B (s % 512) x

theorem idx_0 : ∀ t : Fin cfg0.N, win0_0.index t = ![t.val / 16, t.val % 16, 0] :=
  (by decide +kernel : ∀ t : Fin grid0.N, win0_0.index t = ![t.val / 16, t.val % 16, 0])
theorem idx_1 : ∀ t : Fin cfg0.N, win0_1.index t = ![t.val / 16, t.val % 16 - 1, 1] :=
  (by decide +kernel : ∀ t : Fin grid0.N, win0_1.index t = ![t.val / 16, t.val % 16 - 1, 1])
theorem idx_2 : ∀ t : Fin cfg0.N, win0_2.index t = ![t.val / 16, t.val % 16, 1] :=
  (by decide +kernel : ∀ t : Fin grid0.N, win0_2.index t = ![t.val / 16, t.val % 16, 1])
theorem idx_3 : ∀ t : Fin cfg0.N, win0_3.index t = ![t.val / 16, t.val % 16 - 1, 2] :=
  (by decide +kernel : ∀ t : Fin grid0.N, win0_3.index t = ![t.val / 16, t.val % 16 - 1, 2])
theorem idx_4 : ∀ t : Fin cfg0.N, win0_4.index t = ![t.val / 16, t.val % 16, 2] :=
  (by decide +kernel : ∀ t : Fin grid0.N, win0_4.index t = ![t.val / 16, t.val % 16, 2])
theorem idx_5 : ∀ t : Fin cfg0.N, win0_5.index t = ![0, 0, 0] :=
  (by decide +kernel : ∀ t : Fin grid0.N, win0_5.index t = ![0, 0, 0])
theorem idx_6 : ∀ t : Fin cfg0.N, win0_6.index t = ![t.val / 16, t.val % 16, 0] :=
  (by decide +kernel : ∀ t : Fin grid0.N, win0_6.index t = ![t.val / 16, t.val % 16, 0])
theorem coord_1 : ∀ t : Fin cfg0.N, (grid0.coords t 1).val = t.val % 16 :=
  (by decide +kernel : ∀ t : Fin grid0.N, (grid0.coords t 1).val = t.val % 16)

section

variable {l m n : ℕ} (a : Fin l) (b : Fin m) (d : Fin n)

theorem val_0 : (ValueIdx.ix3 a b d 0).val = a.val := rfl
theorem val_1 : (ValueIdx.ix3 a b d 1).val = b.val := rfl
theorem val_2 : (ValueIdx.ix3 a b d 2).val = d.val := rfl

end

variable (m : (ℓ : Loc nD τ sig) → Buf (Elt Ideal) ℓ) (c : Dev nD) (t : Fin cfg0.N)

theorem in_0 : (iblk m c 0 t : S1x512x2048.Idx → EReal)
    = block (m ((c : Thread nD τ).loc main_arg0)) (t.val / 16) (t.val % 16) 0 := by
  funext j
  unfold block at3
  blk_ext! [iblk, V_main_arg0, idx_0 t]
  all_goals simp only [val_0, val_1, val_2, Fin.val_ofNat]; omega

theorem in_1 : (iblk m c 1 t : S1x512x2048.Idx → EReal)
    = block (m ((c : Thread nD τ).loc main_arg0)) (t.val / 16) (t.val % 16 - 1) 1 := by
  funext j
  unfold block at3
  blk_ext! [iblk, V_main_arg0, idx_1 t]
  all_goals simp only [val_0, val_1, val_2, Fin.val_ofNat]; omega

theorem in_2 : (iblk m c 2 t : S1x512x2048.Idx → EReal)
    = block (m ((c : Thread nD τ).loc main_arg0)) (t.val / 16) (t.val % 16) 1 := by
  funext j
  unfold block at3
  blk_ext! [iblk, V_main_arg0, idx_2 t]
  all_goals simp only [val_0, val_1, val_2, Fin.val_ofNat]; omega

theorem in_3 : (iblk m c 3 t : S1x512x2048.Idx → EReal)
    = block (m ((c : Thread nD τ).loc main_arg0)) (t.val / 16) (t.val % 16 - 1) 2 := by
  funext j
  unfold block at3
  blk_ext! [iblk, V_main_arg0, idx_3 t]
  all_goals simp only [val_0, val_1, val_2, Fin.val_ofNat]; omega

theorem in_4 : (iblk m c 4 t : S1x512x2048.Idx → EReal)
    = block (m ((c : Thread nD τ).loc main_arg0)) (t.val / 16) (t.val % 16) 2 := by
  funext j
  unfold block at3
  blk_ext! [iblk, V_main_arg0, idx_4 t]
  all_goals simp only [val_0, val_1, val_2, Fin.val_ofNat]; omega

theorem in_5 : (iblk m c 5 t : S16x128x640.Idx → EReal) = V m c main_v11 := by
  funext j
  blk_ext [iblk, idx_5 t]

theorem array_eq : ((Gen.dats m 0 c).arrAt 6 cfg0.N : S4x8192x2048.Idx → EReal)
    = fun j => kernelVal (m ((c : Thread nD τ).loc main_arg0)) (V m c main_v11) (j 0).val (j 1).val (j 2).val := by
  refine (Gen.dats m 0 c).arrAt_eq_of_covers 6 _ (by decide +kernel) fun t hf y => ?_
  blk_simp
  rw [after0_6]
  unfold outsAt0
  rw [out_apply, in_0, in_1, in_2, in_3, in_4, in_5]
  have h1 : (y 1).val < 512 := (y 1).isLt
  have e0 : win0_6.index t 0 = t.val / 16 := congrFun (idx_6 t) 0
  have e1 : win0_6.index t 1 = t.val % 16 := congrFun (idx_6 t) 1
  have e2 : win0_6.index t 2 = 0 := congrFun (idx_6 t) 2
  rw [e0, e1, e2, coord_1 t]
  unfold kernelVal
  have d1 : (t.val % 16 * 512 + (y 1).val) / 512 = t.val % 16 := by omega
  have d2 : (t.val % 16 * 512 + (y 1).val) % 512 = (y 1).val := by omega
  rw [d1, d2, Nat.zero_mul, Nat.zero_add]

end Cert.Attn
end
-- ==== Proof.AttnSpec.lean ====
/-
  Attention over a band: what a row of the result is, and that the kernel's row — 640 columns wide, with the columns
  outside the row's own 576 at −∞ — is it.
-/
module

public import proofs.«01_k».proof.Proof.AttnArray

@[expose] public section

noncomputable section

namespace Cert.Attn

open Idealize.ShloMosaic
open scoped BigOperators

abbrev Fused := (⟨3, ![4, 8192, 6144]⟩ : Shape).Idx → EReal
abbrev Bias := (⟨2, ![16, 320]⟩ : Shape).Idx → EReal

/-- The score of column `ik` of the band for row `s`, head `h`: −∞ before the array's first row. -/
def bandScore (Q : Fused) (R : Bias) (b s h ik : ℕ) : EReal :=
  score (on (64 * (s / 64) + ik))
    (∑ d : Fin 128, at3 Q b s (128 * h + d.val) * at3 Q b (64 * (s / 64) + ik - 512) (2048 + (128 * h + d.val)))
    (at2 R h (place (s % 64) ik))

/-- Row `s`, column `x` (head `x / 128`) of batch `b` of the attention. -/
def attn (Q : Fused) (R : Bias) (b s x : ℕ) : EReal :=
  Row.after (fun ik : Fin 576 => bandScore Q R b s (x / 128) ik.val)
    (fun ik : Fin 576 => at3 Q b (64 * (s / 64) + ik.val - 512) (4096 + x))

/-- The bias as the kernel takes it: per head, for the 128 rows of two chunks, each chunk's 576 columns in the 640. -/
def wideBias (R : Bias) (h r x : ℕ) : EReal :=
  if 64 * (r / 64) ≤ x ∧ x < 64 * (r / 64) + 576 then at2 R h (place (r % 64) (x - 64 * (r / 64))) else ⊥

theorem score_on (dot b : EReal) : score 1#1 dot b = dot * sc + b := rfl
theorem score_off (dot b : EReal) : score 0#1 dot b = ⊥ := rfl

theorem on_neg {a : ℕ} (h : ¬ 512 ≤ a) : on a = 0#1 := if_neg h
theorem on_pos {a : ℕ} (h : 512 ≤ a) : on a = 1#1 := if_pos h

theorem score_bot (p : BitVec 1) (dot : EReal) : score p dot ⊥ = ⊥ := by
  unfold score Scalar.select
  split_ifs
  · exact EReal.add_bot _
  · rfl

/-- A row of a scratch buffer is a row of the array, 512 rows before the block on, wherever that is in the array. -/
theorem scratch_row (Q : Fused) (b n w r x : ℕ) (hn : n < 16) (hr : r < 1024) (hx : x < 2048)
    (h : 512 ≤ 512 * n + r) :
    at2 (scratch (block Q b (n - 1) w) (block Q b n w)) r x = at3 Q b (512 * n + r - 512) (2048 * w + x) := by
  have hr' : (Fin.ofNat 1024 r).val = r := Nat.mod_eq_of_lt hr
  have hx' : (Fin.ofNat 2048 x).val = x := Nat.mod_eq_of_lt hx
  show (if (Fin.ofNat 1024 r).val < 512 then at3 (block Q b (n - 1) w) 0 (Fin.ofNat 1024 r).val (Fin.ofNat 2048 x).val
    else at3 (block Q b n w) 0 ((Fin.ofNat 1024 r).val - 512) (Fin.ofNat 2048 x).val) = _
  rw [hr', hx']
  split_ifs with h5
  · show at3 Q b (512 * (n - 1) + (Fin.ofNat 512 r).val) (2048 * w + (Fin.ofNat 2048 x).val) = _
    have h6 : (Fin.ofNat 512 r).val = r := Nat.mod_eq_of_lt h5
    rw [hx', h6, show 512 * (n - 1) + r = 512 * n + r - 512 by omega]
  · show at3 Q b (512 * n + (Fin.ofNat 512 (r - 512)).val) (2048 * w + (Fin.ofNat 2048 x).val) = _
    have h6 : (Fin.ofNat 512 (r - 512)).val = r - 512 := Nat.mod_eq_of_lt (by omega)
    rw [hx', h6, show 512 * n + (r - 512) = 512 * n + r - 512 by omega]

theorem block_row (Q : Fused) (b n w r x : ℕ) (hr : r < 512) (hx : x < 2048) :
    at3 (block Q b n w) 0 r x = at3 Q b (512 * n + r) (2048 * w + x) := by
  have hr' : (Fin.ofNat 512 r).val = r := Nat.mod_eq_of_lt hr
  have hx' : (Fin.ofNat 2048 x).val = x := Nat.mod_eq_of_lt hx
  show at3 Q b (512 * n + (Fin.ofNat 512 r).val) (2048 * w + (Fin.ofNat 2048 x).val) = _
  rw [hr', hx']

/-- The columns of a chunk's band among the 640 of its pair of chunks. -/
def widen (a : ℕ) (ha : a < 2) (ik : Fin 576) : Fin 640 := ⟨64 * a + ik.val, by have := ik.isLt; omega⟩

theorem widen_inj (a : ℕ) (ha : a < 2) : Function.Injective (widen a ha) := by
  intro p q h
  have := congrArg Fin.val h
  simp only [widen] at this
  exact Fin.ext (by omega)

/-- The kernel's row is the attention's. -/
theorem kernelVal_eq (Q : Fused) (R : Bias) (B : (⟨3, ![16, 128, 640]⟩ : Shape).Idx → EReal)
    (hB : ∀ h r x, h < 16 → r < 128 → x < 640 → at3 B h r x = wideBias R h r x)
    (b s x : ℕ) (hs : s < 8192) (hx : x < 2048) : kernelVal Q B b s x = attn Q R b s x := by
  have ha : s % 512 % 128 / 64 < 2 := by omega
  unfold kernelVal blockVal attn
  refine Row.after_widen (widen (s % 512 % 128 / 64) ha) (widen_inj _ ha) _ _ _ _ (fun ik => ?_) (fun y hy => ?_)
    (fun ik h => ?_)
  · have hik := ik.isLt
    have e : 512 * (s / 512) + 128 * (s % 512 / 128) + (64 * (s % 512 % 128 / 64) + ik.val) = 64 * (s / 64) + ik.val := by
      omega
    have hb : at3 B (x / 128) (s % 512 % 128) (64 * (s % 512 % 128 / 64) + ik.val)
        = at2 R (x / 128) (place (s % 64) ik.val) := by
      rw [hB _ _ _ (by omega) (by omega) (by omega)]
      unfold wideBias
      rw [if_pos (by omega), show s % 512 % 128 % 64 = s % 64 by omega, Nat.add_sub_cancel_left]
    unfold bandScore
    simp only [widen]
    rw [e, hb]
    by_cases h5 : 512 ≤ 64 * (s / 64) + ik.val
    · congr 1
      refine Finset.sum_congr rfl fun d _ => ?_
      have hd := d.isLt
      rw [block_row _ _ _ _ _ _ (by omega) (by omega),
        scratch_row _ _ _ _ _ _ (by omega) (by omega) (by omega) (by omega),
        show 512 * (s / 512) + s % 512 = s by omega,
        show 512 * (s / 512) + (128 * (s % 512 / 128) + (64 * (s % 512 % 128 / 64) + ik.val)) - 512
          = 64 * (s / 64) + ik.val - 512 by omega, Nat.mul_zero, Nat.zero_add, Nat.mul_one]
    · rw [on_neg h5, score_off, score_off]
  · have hy' := y.isLt
    have hout : ¬ (64 * (s % 512 % 128 / 64) ≤ y.val ∧ y.val < 64 * (s % 512 % 128 / 64) + 576) := by
      rintro ⟨h1, h2⟩
      exact hy ⟨⟨y.val - 64 * (s % 512 % 128 / 64), by omega⟩, Fin.ext (by simp only [widen]; omega)⟩
    rw [hB _ _ _ (by omega) (by omega) (by omega)]
    unfold wideBias
    rw [if_neg hout, score_bot]
  · have hik := ik.isLt
    have h5 : 512 ≤ 64 * (s / 64) + ik.val := by
      by_contra h5
      refine h ?_
      unfold bandScore
      rw [on_neg h5, score_off]
    simp only [widen]
    rw [scratch_row _ _ _ _ _ _ (by omega) (by omega) (by omega) (by omega),
      show 512 * (s / 512) + (128 * (s % 512 / 128) + (64 * (s % 512 % 128 / 64) + ik.val)) - 512
        = 64 * (s / 64) + ik.val - 512 by omega]

end Cert.Attn
end
-- ==== Proof.AttnTable.lean ====
/-
  The host's table of clipped distances, at every entry: the 36864 entries are evaluated, in eight parts.
-/
module

public import proofs.«01_k».proof.KernelIdeal
public import proofs.«01_k».proof.Proof.AttnAt

@[expose] public section

set_option maxRecDepth 16384

noncomputable section

namespace Cert.Attn

open Idealize.ShloMosaic

/-- Whether the `n` entries of the table from the `i`th on are the clipped distances. -/
def agrees : ℕ → ℕ → Bool
  | 0, _ => true
  | n + 1, i => (Cert.KernelIdeal.lit0t i).toNat == place (i / 576) (i % 576) && agrees n (i + 1)

theorem agrees_apply (n i j : ℕ) (h : agrees n i = true) (h1 : i ≤ j) (h2 : j < i + n) :
    (Cert.KernelIdeal.lit0t j).toNat = place (j / 576) (j % 576) := by
  induction n generalizing i with
  | zero => omega
  | succ n ih =>
    have h' := (Bool.and_eq_true _ _).mp h
    by_cases e : i = j
    · subst e
      exact eq_of_beq h'.1
    · exact ih (i + 1) h'.2 (by omega) (by omega)

theorem table_0 : agrees 4608 0 = true := by decide +kernel
theorem table_1 : agrees 4608 4608 = true := by decide +kernel
theorem table_2 : agrees 4608 9216 = true := by decide +kernel
theorem table_3 : agrees 4608 13824 = true := by decide +kernel
theorem table_4 : agrees 4608 18432 = true := by decide +kernel
theorem table_5 : agrees 4608 23040 = true := by decide +kernel
theorem table_6 : agrees 4608 27648 = true := by decide +kernel
theorem table_7 : agrees 4608 32256 = true := by decide +kernel

theorem table_toNat (j : ℕ) (hj : j < 36864) :
    (Cert.KernelIdeal.lit0t j).toNat = place (j / 576) (j % 576) := by
  by_cases h0 : j < 4608
  · exact agrees_apply _ _ j table_0 (by omega) (by omega)
  by_cases h1 : j < 9216
  · exact agrees_apply _ _ j table_1 (by omega) (by omega)
  by_cases h2 : j < 13824
  · exact agrees_apply _ _ j table_2 (by omega) (by omega)
  by_cases h3 : j < 18432
  · exact agrees_apply _ _ j table_3 (by omega) (by omega)
  by_cases h4 : j < 23040
  · exact agrees_apply _ _ j table_4 (by omega) (by omega)
  by_cases h5 : j < 27648
  · exact agrees_apply _ _ j table_5 (by omega) (by omega)
  by_cases h6 : j < 32256
  · exact agrees_apply _ _ j table_6 (by omega) (by omega)
  exact agrees_apply _ _ j table_7 (by omega) (by omega)

theorem table_eq (i : Fin 36864) :
    Cert.KernelIdeal.lit0 i = BitVec.ofNat 32 (place (i.val / 576) (i.val % 576)) := by
  have h := table_toNat i.val i.isLt
  apply BitVec.eq_of_toNat_eq
  rw [BitVec.toNat_ofNat, Nat.mod_eq_of_lt (by unfold place; omega)]
  exact h

end Cert.Attn
end
-- ==== Proof.AttnWords.lean ====
/-
  The reference's index words: the clipped distance, the row of the padded array and whether it is one of the array's
  own; and its gathers and pads, each read at an index.
-/
module

public import proofs.«01_k».proof.Proof.Gen.ReferenceIdeal.Read
public import proofs.«01_k».proof.Proof.AttnAt
public import Idealize.ShloMosaic.Lib.KernelVsHost

@[expose] public section

set_option maxRecDepth 16384

noncomputable section

namespace Cert.Attn

open Cert.ReferenceIdeal Cert.ReferenceIdeal.Gen Cert.ReferenceIdeal.Read Idealize.ShloMosaic
open scoped BigOperators

/-- The clipped distance as a word, wrapped where negative, from the distance counted from −63. -/
theorem clip_words : ∀ t : Fin 639,
    (fun d : BitVec 32 =>
        (Scalar.select (IntOp.cmpi .slt d 0#32) (IntOp.addi d 320#32) d).toInt.toNat)
      (IntOp.subi (IntOp.minsi 256#32 (IntOp.maxsi 4294967233#32 (BitVec.ofNat 32 t.val - 63#32))) 4294967233#32)
      = min t.val 319 := by
  decide +kernel

/-- The row's word, wrapped where negative, read as a number. -/
theorem row_words : ∀ a : Fin 8704,
    (Scalar.select (IntOp.cmpi .slt (BitVec.ofNat 32 a.val) 0#32) (IntOp.addi (BitVec.ofNat 32 a.val) 8704#32)
      (BitVec.ofNat 32 a.val)).toInt.toNat = a.val := by
  decide +kernel

theorem gather_table {α : Type} (x : S16x320.Idx → α) (w : IVec S64x576x1 32) (i : S16x64x576.Idx) (n : ℕ)
    (h : (w (ValueIdx.ix3 (i 1) (i 2) (0 : Fin 1))).toInt.toNat = n) (hn : n < 320) :
    Host.gather gather_S16x320_S64x576x1_S16x64x576_0_1_n_n_1_2_161 x w i = at2 x (i 0).val n := by
  refine eq_at2 x _ _ _ ?_ ?_
  · exact Nat.zero_add _
  · have e : (w (gather_S16x320_S64x576x1_S16x64x576_0_1_n_n_1_2_161.siIdx i ⟨0, Nat.one_pos⟩)).toInt.toNat = n :=
      Eq.trans (congrArg (fun z : S64x576x1.Idx => (w z).toInt.toNat)
        (show _ = ValueIdx.ix3 (i 1) (i 2) (0 : Fin 1) from
          funext fun a => match a with | ⟨0, _⟩ => rfl | ⟨1, _⟩ => rfl | ⟨2, _⟩ => rfl)) h
    refine Eq.trans (congrArg (fun z : ℕ => min z 319 + 0 + 0) e) ?_
    show min n 319 + 0 + 0 = n
    omega

theorem gather_rows {α : Type} (x : S4x8704x16x128.Idx → α) (w : IVec S128x576x1 32) (i : S4x128x576x16x128.Idx)
    (n : Fin 8704) (h : (w (ValueIdx.ix3 (i 1) (i 2) (0 : Fin 1))).toInt.toNat = n.val) :
    Host.gather gather_S4x8704x16x128_S128x576x1_S4x128x576x16x128_034_1_n_n_1_2_4116128 x w i
      = x (ValueIdx.ix4 (i 0) n (i 3) (i 4)) := by
  refine congrArg x (funext fun a => Fin.ext ?_)
  match a with
  | ⟨0, _⟩ => exact Nat.zero_add _
  | ⟨1, _⟩ =>
    have e : (w (gather_S4x8704x16x128_S128x576x1_S4x128x576x16x128_034_1_n_n_1_2_4116128.siIdx i
        ⟨0, Nat.one_pos⟩)).toInt.toNat = n.val :=
      Eq.trans (congrArg (fun z : S128x576x1.Idx => (w z).toInt.toNat)
        (show _ = ValueIdx.ix3 (i 1) (i 2) (0 : Fin 1) from
          funext fun a => match a with | ⟨0, _⟩ => rfl | ⟨1, _⟩ => rfl | ⟨2, _⟩ => rfl)) h
    have hn := n.isLt
    refine Eq.trans (congrArg (fun z : ℕ => min z 8703 + 0 + 0) e) ?_
    show min n.val 8703 + 0 + 0 = n.val
    omega
  | ⟨2, _⟩ => exact Nat.zero_add _
  | ⟨3, _⟩ => exact Nat.zero_add _

/-- 512 rows of `v` put before the array's. -/
theorem pad_rows {α : Type} (x : S4x8192x16x128.Idx → α) (v : S_.Idx → α) (b : Fin 4) (n : Fin 8704) (h : Fin 16)
    (d : Fin 128) :
    pad S4x8704x16x128 ![0, 512, 0, 0] ![0, 0, 0, 0] ![0, 0, 0, 0] x v
        pads_S4x8192x16x128_S4x8704x16x128_000_51200_000_000 h_S_ (ValueIdx.ix4 b n h d)
      = if hn : 512 ≤ n.val then x (ValueIdx.ix4 b (⟨n.val - 512, by omega⟩ : Fin 8192) h d)
        else v (Shape.Idx.first h_S_) := by
  split_ifs with hn
  · refine pad_apply_of_inside _ _ _ _ _ _ _ _ _ fun a => ?_
    match a with
    | ⟨0, _⟩ => show b.val = 0 + b.val * 1; omega
    | ⟨1, _⟩ => show n.val = 512 + (n.val - 512) * 1; omega
    | ⟨2, _⟩ => show h.val = 0 + h.val * 1; omega
    | ⟨3, _⟩ => show d.val = 0 + d.val * 1; omega
  · exact pad_apply_of_not_inside _ _ _ _ _ _ _ _ 1 fun hk => hn hk.1

/-- The bias of head `i 0` for place `i 1` of a chunk and column `i 2` of its band. -/
theorem bias_apply (R : S16x320.Idx → EReal) (i : S16x64x576.Idx) :
    val_main_v28 (F := Ideal) R i = at2 R (i 0).val (place (i 1).val (i 2).val) := by
  unfold val_main_v28
  refine gather_table R _ i _ ?_ (by unfold place; omega)
  have h1 : (i 1).val < 64 := (i 1).isLt
  have h2 : (i 2).val < 576 := (i 2).isLt
  have hw : (IntOp.subi (IntOp.addi 512#32 (BitVec.ofNat 32 (i 1).val)) (BitVec.ofNat 32 (i 2).val))
      = BitVec.ofNat 32 (575 + (i 1).val - (i 2).val) - 63#32 := by
    apply BitVec.eq_of_toNat_eq
    simp only [IntOp.subi, IntOp.addi, BitVec.toNat_sub, BitVec.toNat_add, BitVec.toNat_ofNat]
    omega
  refine Eq.trans ?_ (clip_words ⟨575 + (i 1).val - (i 2).val, by omega⟩)
  rw [← hw]
  simp only [val_main_v27_apply, val_main_v26_apply, val_main_v25_apply, val_main_v24_apply, val_main_v23_apply,
    val_main_v22_apply, val_main_v21_apply, val_main_v20_apply, val_main_v19_apply, val_main_v18_apply,
    val_main_v17_apply, val_main_v16_apply, val_main_v15_apply, val_main_v14_apply, val_main_v13_apply,
    val_main_v12_apply, val_main_v11_apply, val_main_v10_apply, val_main_call2_v4_apply, val_main_call2_v3_apply,
    val_main_call2_v2_apply, val_main_call2_v1_apply, val_main_call2_v0_apply, val_main_c_1_apply, val_main_c_2_apply,
    val_main_c_3_apply, val_main_c_4_apply, val_main_c_5_apply, val_main_c_6_apply]

/-- Row `64 c + k` of the padded array, as a word. -/
theorem row_apply (i : S128x576.Idx) :
    val_main_v36 (F := Ideal) i = BitVec.ofNat 32 (64 * (i 0).val + (i 1).val) := by
  simp only [val_main_v36_apply, val_main_v35_apply, val_main_v34_apply, val_main_v33_apply, val_main_v32_apply,
    val_main_v31_apply, val_main_v30_apply, val_main_v29_apply, val_main_v11_apply, val_main_c_7_apply]
  have h1 : (i 0).val < 128 := (i 0).isLt
  have h2 : (i 1).val < 576 := (i 1).isLt
  apply BitVec.eq_of_toNat_eq
  show (BitVec.ofNat 32 (i 0).val * 64#32 + BitVec.ofNat 32 (i 1).val).toNat = _
  simp only [BitVec.toNat_mul, BitVec.toNat_add, BitVec.toNat_ofNat]
  omega

theorem zero_f32 : (FloatOps.sitofp .f32 (0#32) : Ideal .f32) = (0 : EReal) := by
  show ((_ : ℝ) : EReal) = 0
  simp

/-- The padded keys or values of a chunk's band at a column: a row of the array, or 0 before its first. -/
theorem band_rows (x : S4x8192x16x128.Idx → EReal) (v : S_.Idx → EReal) (hv : ∀ a, v a = 0) (w : IVec S128x576x1 32)
    (hw : ∀ (c : Fin 128) (k : Fin 576), w (ValueIdx.ix3 c k (0 : Fin 1))
      = Scalar.select (IntOp.cmpi .slt (BitVec.ofNat 32 (64 * c.val + k.val)) 0#32)
        (IntOp.addi (BitVec.ofNat 32 (64 * c.val + k.val)) 8704#32) (BitVec.ofNat 32 (64 * c.val + k.val)))
    (i : S4x128x576x16x128.Idx) :
    Host.gather gather_S4x8704x16x128_S128x576x1_S4x128x576x16x128_034_1_n_n_1_2_4116128
        (pad S4x8704x16x128 ![0, 512, 0, 0] ![0, 0, 0, 0] ![0, 0, 0, 0] x v
          pads_S4x8192x16x128_S4x8704x16x128_000_51200_000_000 h_S_) w i
      = if hn : 512 ≤ 64 * (i 1).val + (i 2).val then
          x (ValueIdx.ix4 (i 0) (⟨64 * (i 1).val + (i 2).val - 512, by
            have h1 : (i 1).val < 128 := (i 1).isLt
            have h2 : (i 2).val < 576 := (i 2).isLt
            omega⟩ : Fin 8192) (i 3) (i 4))
        else 0 := by
  have h1 : (i 1).val < 128 := (i 1).isLt
  have h2 : (i 2).val < 576 := (i 2).isLt
  rw [gather_rows _ w i ⟨64 * (i 1).val + (i 2).val, by omega⟩
    ((congrArg (fun z : BitVec 32 => z.toInt.toNat) (hw (i 1) (i 2))).trans (row_words ⟨_, by omega⟩))]
  refine Eq.trans (pad_rows x v (i 0) _ (i 3) (i 4)) ?_
  rw [hv]

end Cert.Attn
end
-- ==== Proof.AttnBias.lean ====
/-
  The bias the attention kernel is given: the host's table of distances, gathered per head and laid out for a pair of
  chunks.
-/
module

public import proofs.«01_k».proof.Proof.AttnSpec
public import proofs.«01_k».proof.Proof.AttnTable
public import proofs.«01_k».proof.Proof.AttnWords
public import Idealize.ShloMosaic.Lib.Pointwise

@[expose] public section

set_option maxRecDepth 16384

noncomputable section

namespace Cert.Attn

open Idealize.ShloMosaic Idealize.ShloMosaic.TcCoe Cert.KernelIdeal Cert.KernelIdeal.Gen
open scoped BigOperators

/-- Two chunks' biases one under the other, the second's band 64 columns further right, −∞ beside them. -/
theorem layout_apply (G : S16x64x576.Idx → EReal) (z0 : S16x64x0.Idx → EReal) (z1 : S16x64x64.Idx → EReal) (R : Bias)
    (hG : ∀ j, G j = at2 R (j 0).val (place (j 1).val (j 2).val)) (hz : ∀ j, z1 j = ⊥) (i : S16x128x640.Idx) :
    concatenate S16x128x640 1
      [⟨S16x64x640, concatenate S16x64x640 2 [⟨S16x64x0, z0⟩, ⟨S16x64x576, G⟩, ⟨S16x64x64, z1⟩]
          concatenates_S16x64x0_S16x64x576_S16x64x64_S16x64x640_d2⟩,
        ⟨S16x64x640, concatenate S16x64x640 2 [⟨S16x64x64, z1⟩, ⟨S16x64x576, G⟩, ⟨S16x64x0, z0⟩]
          concatenates_S16x64x64_S16x64x576_S16x64x0_S16x64x640_d2⟩]
      concatenates_S16x64x640_S16x64x640_S16x128x640_d1 i = wideBias R (i 0).val (i 1).val (i 2).val := by
  have h1 : (i 1).val < 128 := (i 1).isLt
  have h2 : (i 2).val < 640 := (i 2).isLt
  pointwise
  unfold wideBias
  by_cases h : (i 1).val < 64
  · have e1 : (i 1).val / 64 = 0 := by omega
    have e2 : (i 1).val % 64 = (i 1).val := by omega
    rw [dif_pos h, dif_neg (Nat.not_lt_zero _), e1, e2]
    by_cases h5 : (i 2).val < 576
    · rw [dif_pos h5]
      exact (hG _).trans (if_pos (by omega)).symm
    · rw [dif_neg h5]
      exact (hz _).trans (if_neg (by omega)).symm
  · have e1 : (i 1).val / 64 = 1 := by omega
    have e2 : (i 1).val % 64 = (i 1).val - 64 := by omega
    rw [dif_neg h, e1, e2]
    by_cases h5 : (i 2).val < 64
    · rw [dif_pos h5]
      exact (hz _).trans (if_neg (by omega)).symm
    · rw [dif_neg h5, dif_pos (by omega : (i 2).val - 64 < 576)]
      exact (hG _).trans (if_pos (by omega)).symm

/-- The table's word, read signed, is the clipped distance. -/
theorem table_place (i : S64x576.Idx) :
    (Cert.KernelIdeal.lit0 (S64x576.rowMajor i)).toInt.toNat = place (i 0).val (i 1).val := by
  have h1 : (i 1).val < 576 := (i 1).isLt
  have hp : place (i 0).val (i 1).val < 320 := by unfold place; omega
  have key : ∀ n : Fin 36864, n.val = (i 0).val * 576 + (i 1).val →
      (Cert.KernelIdeal.lit0 n).toInt.toNat = place (i 0).val (i 1).val := fun n h0 => by
    rw [table_eq, h0, show ((i 0).val * 576 + (i 1).val) / 576 = (i 0).val by omega,
      show ((i 0).val * 576 + (i 1).val) % 576 = (i 1).val by omega]
    rw [BitVec.toInt_eq_toNat_of_lt (by rw [BitVec.toNat_ofNat]; omega), BitVec.toNat_ofNat, Int.toNat_natCast]
    omega
  exact key _ (Shape.rowMajor_val_two i)

variable (m : (ℓ : Loc nD τ sig) → Buf (Elt Ideal) ℓ) (c : Dev nD)

set_option maxHeartbeats 4000000 in
theorem bias_read (i : S16x128x640.Idx) :
    (V m c main_v11 : S16x128x640.Idx → EReal) i
      = wideBias (m ((c.tc : Thread nD τ).loc main_arg1)) (i 0).val (i 1).val (i 2).val := by
  unfold V hostOps0
  rw [StableHlo.after_cons]
  generalize hF : HloOp.result _ _ = F
  have hA : F (Proc.tc.devRef main_arg1) = m ((c.tc : Thread nD τ).loc main_arg1) := by
    rw [← hF]
    exact StableHlo.nullary_result_ne _ _ _ _ (by decide)
  have hC : (F (Proc.tc.devRef main_c) : S64x576.Idx → BitVec 32)
      = fun j => Cert.KernelIdeal.lit0 (S64x576.rowMajor j) := by
    rw [← hF]
    exact StableHlo.nullary_result _ _ _ _
  clear hF
  simp only [StableHlo.after_cons, StableHlo.after_nil]
  after_results_steps
  dsimp only [Matrix.cons_val]
  after_results_steps
  refine layout_apply _ _ _ _ (fun j => ?_) (fun j => ofBits_neg_inf) i
  rw [← hA]
  refine gather_table _ _ j _ ?_ (by unfold place; omega)
  refine Eq.trans ?_ (table_place (ValueIdx.ix2 (j 1) (j 2)))
  refine Eq.trans ?_ (congrArg (fun z : BitVec 32 => z.toInt.toNat) (congrFun hC (ValueIdx.ix2 (j 1) (j 2))))
  refine congrArg (fun z : BitVec 32 => z.toInt.toNat) ?_
  exact broadcastInDim_apply _ bcast_S64x576_S64x576x1_0_1 _ _ (ValueIdx.ix2 (j 1) (j 2)) (fun a => match a with
    | ⟨0, _⟩ => by rfl
    | ⟨1, _⟩ => by rfl)

end Cert.Attn
end
-- ==== Proof.AttnRef.lean ====
/-
  The reference's result at an index: the row divided before the sum over the values, over the same scores.
-/
module

public import proofs.«01_k».proof.Proof.AttnWords
public import proofs.«01_k».proof.Proof.AttnSpec

@[expose] public section

set_option maxRecDepth 16384

noncomputable section

namespace Cert.Attn

open Cert.ReferenceIdeal Cert.ReferenceIdeal.Gen Cert.ReferenceIdeal.Read Idealize.ShloMosaic
open scoped BigOperators

theorem keys_apply (Q : Fused) (i : S4x8192x16x128.Idx) :
    val_main_v5 (F := Ideal) Q i = at3 Q (i 0).val (i 1).val (2048 + (128 * (i 2).val + (i 3).val)) := by
  have h0 : (i 0).val < 4 := (i 0).isLt
  have h1 : (i 1).val < 8192 := (i 1).isLt
  have h2 : (i 2).val < 16 := (i 2).isLt
  have h3 : (i 3).val < 128 := (i 3).isLt
  simp only [val_main_v5_apply, val_main_v4_apply, val_main_v1_apply, val_main_v0_apply]
  refine eq_at3 Q _ _ _ _ ?_ ?_ ?_
  · dsimp only; omega
  · dsimp only; omega
  · dsimp only; omega

theorem vals_apply (Q : Fused) (i : S4x8192x16x128.Idx) :
    val_main_v7 (F := Ideal) Q i = at3 Q (i 0).val (i 1).val (4096 + (128 * (i 2).val + (i 3).val)) := by
  have h0 : (i 0).val < 4 := (i 0).isLt
  have h1 : (i 1).val < 8192 := (i 1).isLt
  have h2 : (i 2).val < 16 := (i 2).isLt
  have h3 : (i 3).val < 128 := (i 3).isLt
  simp only [val_main_v7_apply, val_main_v6_apply, val_main_v1_apply, val_main_v0_apply]
  refine eq_at3 Q _ _ _ _ ?_ ?_ ?_
  · dsimp only; omega
  · dsimp only; omega
  · dsimp only; omega

theorem queries_apply (Q : Fused) (i : S4x128x64x16x128.Idx) :
    val_main_v37 (F := Ideal) Q i
      = at3 Q (i 0).val (64 * (i 1).val + (i 2).val) (128 * (i 3).val + (i 4).val) := by
  have h0 : (i 0).val < 4 := (i 0).isLt
  have h1 : (i 1).val < 128 := (i 1).isLt
  have h2 : (i 2).val < 64 := (i 2).isLt
  have h3 : (i 3).val < 16 := (i 3).isLt
  have h4 : (i 4).val < 128 := (i 4).isLt
  simp only [val_main_v37_apply, val_main_v3_apply, val_main_v2_apply, val_main_v1_apply, val_main_v0_apply]
  refine eq_at3 Q _ _ _ _ ?_ ?_ ?_
  · dsimp only; omega
  · dsimp only; omega
  · dsimp only; omega

/-- A number where `on`, zero elsewhere. -/
def orZero (a : ℕ) (x : EReal) : EReal := if 512 ≤ a then x else 0

theorem bandKeys_apply (Q : Fused) (i : S4x128x576x16x128.Idx) :
    val_main_v44 (F := Ideal) Q i = orZero (64 * (i 1).val + (i 2).val)
      (at3 Q (i 0).val (64 * (i 1).val + (i 2).val - 512) (2048 + (128 * (i 3).val + (i 4).val))) := by
  unfold val_main_v44 val_main_v8
  refine Eq.trans (band_rows _ _ ?_ _ ?_ i) ?_
  · intro a
    exact zero_f32
  · intro c k
    simp only [val_main_v43_apply, val_main_v42_apply, val_main_v41_apply, val_main_v40_apply, val_main_v39_apply,
      val_main_v38_apply, val_main_c_8_apply, val_main_c_9_apply, row_apply]
  · unfold orZero
    split_ifs with h
    · exact keys_apply Q _
    · rfl

theorem bandVals_apply (Q : Fused) (i : S4x128x576x16x128.Idx) :
    val_main_v51 (F := Ideal) Q i = orZero (64 * (i 1).val + (i 2).val)
      (at3 Q (i 0).val (64 * (i 1).val + (i 2).val - 512) (4096 + (128 * (i 3).val + (i 4).val))) := by
  unfold val_main_v51 val_main_v9
  refine Eq.trans (band_rows _ _ ?_ _ ?_ i) ?_
  · intro a
    exact zero_f32
  · intro c k
    simp only [val_main_v50_apply, val_main_v49_apply, val_main_v48_apply, val_main_v47_apply, val_main_v46_apply,
      val_main_v45_apply, val_main_c_10_apply, val_main_c_11_apply, row_apply]
  · unfold orZero
    split_ifs with h
    · exact vals_apply Q _
    · rfl

theorem valid_apply (i : S128x576.Idx) :
    val_main_v58 (F := Ideal) i = on (64 * (i 0).val + (i 1).val) := by
  have h0 : (i 0).val < 128 := (i 0).isLt
  have h1 : (i 1).val < 576 := (i 1).isLt
  simp only [val_main_v58_apply, val_main_v57_apply, val_main_v56_apply, val_main_v55_apply, val_main_v54_apply,
    val_main_v53_apply, val_main_v52_apply, val_main_c_12_apply, val_main_c_13_apply, val_main_c_14_apply, row_apply]
  have e : IntOp.subi (BitVec.ofNat 32 (64 * (i 0).val + (i 1).val)) 512#32
      = 4294966784#32 + BitVec.ofNat 32 (64 * (i 0).val + (i 1).val) := by
    apply BitVec.eq_of_toNat_eq
    simp only [IntOp.subi, BitVec.toNat_sub, BitVec.toNat_add, BitVec.toNat_ofNat]
  rw [e]
  exact mask_tests ⟨64 * (i 0).val + (i 1).val, by omega⟩

theorem root_eq : Ideal.hostUnary .sqrt (Ideal.ofBits FTy.f32 0x43000000#32) = ((Real.sqrt 128 : ℝ) : EReal) := by
  have h : Ideal.ofBits FTy.f32 0x43000000#32 = ((128 : ℝ) : EReal) := by
    simp [Idealize.ShloMosaic.Ideal.ofBits, Idealize.ShloMosaic.Ideal.ieee]
    rw [← EReal.coe_mul]
    norm_num
  rw [h]
  show Ideal.sqrt ((128 : ℝ) : EReal) = _
  rw [Ideal.sqrt_coe]
  simp only [show ¬ (128 : ℝ) < 0 from by norm_num, ↓reduceIte]

theorem div_root (x : EReal) : Ideal.div x ((Real.sqrt 128 : ℝ) : EReal) = x * sc := by
  rw [Ideal.div_coe (show Real.sqrt 128 ≠ 0 from (Real.sqrt_pos.mpr (by norm_num)).ne'), one_div]
  rfl

theorem scores_apply (Q : Fused) (R : Bias) (i : S4x128x16x64x576.Idx) :
    val_main_v67 (F := Ideal) Q R i
      = bandScore Q R (i 0).val (64 * (i 1).val + (i 3).val) (i 2).val (i 4).val := by
  have h3 : (i 3).val < 64 := (i 3).isLt
  have e1 : (64 * (i 1).val + (i 3).val) / 64 = (i 1).val := by omega
  have e2 : (64 * (i 1).val + (i 3).val) % 64 = (i 3).val := by omega
  have hd : val_main_v59 (F := Ideal) Q i = ∑ d : Fin 128,
      at3 Q (i 0).val (64 * (i 1).val + (i 3).val) (128 * (i 2).val + d.val)
        * orZero (64 * (i 1).val + (i 4).val)
          (at3 Q (i 0).val (64 * (i 1).val + (i 4).val - 512) (2048 + (128 * (i 2).val + d.val))) := by
    rw [val_main_v59_apply]
    exact Finset.sum_congr rfl fun d _ => congrArg₂ (· * ·) (queries_apply Q _) (bandKeys_apply Q _)
  have hr : ∀ j : S_.Idx, val_main_v60 (F := Ideal) j = ((Real.sqrt 128 : ℝ) : EReal) := fun j => root_eq
  have hm : ∀ j : S_.Idx, val_main_call3_v0 (F := Ideal) j = (⊥ : EReal) := fun j => ofBits_neg_inf
  have hb : val_main_v64 (F := Ideal) R i = at2 R (i 2).val (place (i 3).val (i 4).val) := by
    rw [val_main_v64_apply, val_main_v63_apply, bias_apply]
  have hv : val_main_call3_v1 (F := Ideal) i = on (64 * (i 1).val + (i 4).val) := by
    rw [val_main_call3_v1_apply, val_main_v66_apply, valid_apply]
  have hq : val_main_v62 (F := Ideal) Q i = val_main_v59 (F := Ideal) Q i * sc := by
    rw [val_main_v62_apply, val_main_v61_apply, hr]
    exact div_root _
  rw [val_main_v67_apply, hv, val_main_call3_v2_apply, hm, val_main_v65_apply, hb, hq, hd]
  unfold bandScore
  rw [e1, e2]
  show score _ _ _ = _
  by_cases h : 512 ≤ 64 * (i 1).val + (i 4).val
  · simp only [orZero, if_pos h]
  · rw [on_neg h, score_off, score_off]

theorem tops_apply (Q : Fused) (R : Bias) (i : S4x128x16x64.Idx) :
    val_main_v70 (F := Ideal) Q R i = Row.top fun k : Fin 576 =>
      bandScore Q R (i 0).val (64 * (i 1).val + (i 3).val) (i 2).val k.val := by
  have hb : val_main_v69 (F := Ideal) i = (⊥ : EReal) := by
    rw [val_main_v69_apply]
    exact ofBits_neg_inf
  have hf : val_main_v68 (F := Ideal) Q R i = Row.top fun k : Fin 576 =>
      bandScore Q R (i 0).val (64 * (i 1).val + (i 3).val) (i 2).val k.val := by
    unfold val_main_v68
    rw [Host.reduce_eq_fold_single FloatOps.maximumf _ _ reducesTo_S4x128x16x64x576_S4x128x16x64_d4 (by decide)]
    unfold Row.top
    rw [show (val_main_cst_16 (F := Ideal)) (Shape.Idx.first h_S_) = (⊥ : EReal) from ofBits_neg_inf]
    refine Finset.fold_congr fun k _ => ?_
    exact scores_apply Q R _
  rw [val_main_v70_apply, hb, hf]
  exact bot_sup_eq _

theorem weights_apply (Q : Fused) (R : Bias) (i : S4x128x16x64x576.Idx) :
    val_main_v74 (F := Ideal) Q R i = Row.wt (fun k : Fin 576 =>
      bandScore Q R (i 0).val (64 * (i 1).val + (i 3).val) (i 2).val k.val) (i 4) := by
  rw [val_main_v74_apply, val_main_v73_apply, val_main_v72_apply, val_main_v71_apply, tops_apply, scores_apply]
  rfl

theorem shares_apply (Q : Fused) (R : Bias) (i : S4x128x16x64x576.Idx) :
    val_main_v78 (F := Ideal) Q R i = Ideal.div
      (Row.wt (fun k : Fin 576 => bandScore Q R (i 0).val (64 * (i 1).val + (i 3).val) (i 2).val k.val) (i 4))
      (∑ j, Row.wt (fun k : Fin 576 => bandScore Q R (i 0).val (64 * (i 1).val + (i 3).val) (i 2).val k.val) j) := by
  have h0 : (val_main_cst_18 (F := Ideal)) (Shape.Idx.first h_S_) = (0 : EReal) := by
    show Ideal.ofBits FTy.f32 0x00000000#32 = 0
    simp [Idealize.ShloMosaic.Ideal.ofBits, Idealize.ShloMosaic.Ideal.ieee]
  rw [val_main_v78_apply, weights_apply, val_main_v77_apply, val_main_v76_apply, val_main_v75_apply, h0, zero_add]
  refine congrArg (Ideal.div _) (Finset.sum_congr rfl fun j _ => ?_)
  exact weights_apply Q R _

theorem reference_before (Q : Fused) (R : Bias) (i : S4x8192x2048.Idx) :
    val_main_v82 (F := Ideal) Q R i = Row.before
      (fun ik : Fin 576 => bandScore Q R (i 0).val (i 1).val ((i 2).val / 128) ik.val)
      (fun ik : Fin 576 => orZero (64 * ((i 1).val / 64) + ik.val)
        (at3 Q (i 0).val (64 * ((i 1).val / 64) + ik.val - 512) (4096 + (i 2).val))) := by
  have h0 : (i 0).val < 4 := (i 0).isLt
  have h1 : (i 1).val < 8192 := (i 1).isLt
  have h2 : (i 2).val < 2048 := (i 2).isLt
  have c0 : (((i 0).val * 8192 + (i 1).val) * 2048 + (i 2).val) / 16777216 = (i 0).val := by omega
  have c1 : (((i 0).val * 8192 + (i 1).val) * 2048 + (i 2).val) / 131072 % 128 = (i 1).val / 64 := by omega
  have c2 : (((i 0).val * 8192 + (i 1).val) * 2048 + (i 2).val) / 2048 % 64 = (i 1).val % 64 := by omega
  have c3 : (((i 0).val * 8192 + (i 1).val) * 2048 + (i 2).val) / 128 % 16 = (i 2).val / 128 := by omega
  have c4 : (((i 0).val * 8192 + (i 1).val) * 2048 + (i 2).val) % 128 = (i 2).val % 128 := by omega
  have c5 : 64 * ((i 1).val / 64) + (i 1).val % 64 = (i 1).val := by omega
  have c6 : 128 * ((i 2).val / 128) + (i 2).val % 128 = (i 2).val := by omega
  rw [val_main_v82_apply, val_main_v81_apply, val_main_v80_apply, val_main_v79_apply]
  show ∑ k : Fin 576, _ = _
  unfold Row.before
  refine Finset.sum_congr rfl fun k _ => ?_
  rw [bandVals_apply, shares_apply]
  dsimp only
  rw [c0, c1, c2, c3, c4, c5, c6]
  rfl

/-- The kernel's and the reference's row are one where every entry is a real number. -/
theorem reference_eq (Q : Fused) (R : Bias) (hQ : ∀ j, Row.IsReal (Q j)) (hR : ∀ j, Row.IsReal (R j))
    (i : S4x8192x2048.Idx) :
    val_main_v82 (F := Ideal) Q R i = attn Q R (i 0).val (i 1).val (i 2).val := by
  rw [reference_before]
  have hon : ∀ ik : Fin 576, 512 ≤ 64 * ((i 1).val / 64) + ik.val →
      Row.IsReal (bandScore Q R (i 0).val (i 1).val ((i 2).val / 128) ik.val) := fun ik h => by
    unfold bandScore
    rw [on_pos h, score_on]
    refine Row.IsReal.add (Row.IsReal.mul (Row.IsReal.sum _ _ fun d => Row.IsReal.mul (hQ _) (hQ _)) (Row.isReal_coe _))
      (hR _)
  have hoff : ∀ ik : Fin 576, ¬ 512 ≤ 64 * ((i 1).val / 64) + ik.val →
      bandScore Q R (i 0).val (i 1).val ((i 2).val / 128) ik.val = ⊥ := fun ik h => by
    unfold bandScore
    rw [on_neg h, score_off]
  rw [Row.before_eq_after _ _ (fun ik => ?_) (⟨512, by omega⟩ : Fin 576) (hon _ (by dsimp only; omega)) (fun ik => ?_)]
  · unfold attn
    refine (Row.after_widen id Function.injective_id _ _ _ _ (fun _ => rfl) (fun j hj => (hj ⟨j, rfl⟩).elim) ?_)
    intro ik h
    by_cases h5 : 512 ≤ 64 * ((i 1).val / 64) + ik.val
    · exact if_pos h5
    · exact (h (hoff ik h5)).elim
  · by_cases h5 : 512 ≤ 64 * ((i 1).val / 64) + ik.val
    · exact Or.inr (hon ik h5)
    · exact Or.inl (hoff ik h5)
  · unfold orZero
    split_ifs
    · exact hQ _
    · exact Row.isReal_coe 0

end Cert.Attn
end
-- ==== Proof.AttnClaim.lean ====
/-
  The claims about the band attention: the two frames, the named constants, and the equality of the results.
-/
module

public import proofs.«01_k».proof.Defs
public import proofs.«01_k».proof.Proof.AttnArray
public import proofs.«01_k».proof.Proof.AttnBias
public import proofs.«01_k».proof.Proof.AttnRef
public import proofs.«01_k».proof.Proof.Gen.Kernel.Frame
public import proofs.«01_k».proof.Proof.Gen.KernelIdeal.Value
public import proofs.«01_k».proof.Proof.Gen.ReferenceIdeal.Read
public import Idealize.ShloMosaic.Lib.ReduceAll
public import Idealize.ShloMosaic.Lib.Claim

@[expose] public section

noncomputable section

namespace Cert.Attn

open Idealize.ShloMosaic Idealize.SL.Sem Idealize.ShloMosaic.TcCoe

/-! ## The precondition -/

instance finite_facts : Cert.Pre_finite.Facts where
  bitsLt_bf16_f32 := by decide
  bcast_S_S4x8192x6144 := by decide
  reducesTo_S4x8192x6144_S_d0_1_2 := by decide
  h_S_ := by decide
  bcast_S_S16x320 := by decide
  reducesTo_S16x320_S_d0_1 := by decide

/-- A number whose magnitude is below +∞ is a real. -/
theorem real_of_abs_lt {x : EReal} (h : max x (-x) < ⊤) : Row.IsReal x := by
  induction x with
  | bot => exact absurd h (by simp)
  | coe r => exact ⟨r, rfl⟩
  | top => exact absurd h (by simp)

theorem inf_word : (FloatOps.ofBits (F := Ideal) .f32 0x7F800000#32 : EReal) = ⊤ := by
  simp [Idealize.ShloMosaic.Ideal.ofBits, Idealize.ShloMosaic.Ideal.ieee]

/-- One entry's test reads 1 exactly on a real. -/
theorem real_of_test {x : EReal} (h : Ideal.cmp .olt (max x (-x)) (FloatOps.ofBits (F := Ideal) .f32 0x7F800000#32 : EReal) = 1#1) :
    Row.IsReal x := by
  rw [inf_word] at h
  refine real_of_abs_lt ?_
  by_contra hn
  simp [Ideal.cmp, hn] at h

instance scalar_idx : Subsingleton Cert.Pre_finite.S_.Idx := ⟨fun _ _ => funext fun d => d.elim0⟩

/-- The precondition gives real entries, in both arrays. -/
theorem real_args (Q : FVec Ideal Cert.Pre_finite.S4x8192x6144 .bf16) (R : FVec Ideal Cert.Pre_finite.S16x320 .f32)
    (h : Cert.Pre_finite.fn (F := Ideal) Q R = fun _ => 1#1) :
    (∀ j, Row.IsReal (Q j)) ∧ ∀ j, Row.IsReal (R j) := by
  have h0 := congrFun h (fun d => d.elim0)
  obtain ⟨h1, h2⟩ := IntOp.andi_eq_one.1 h0
  exact ⟨fun j => real_of_test (Host.reduce_andi_all _ _ _ _ _ h1 j),
    fun j => real_of_test (Host.reduce_andi_all _ _ _ _ _ h2 j)⟩

/-! ## The result -/

theorem result_eq (m : (ℓ : Loc Cert.KernelIdeal.nD Cert.KernelIdeal.τ Cert.KernelIdeal.sig) → Buf (Elt Ideal) ℓ)
    (c : Dev Cert.KernelIdeal.nD) :
    ((Cert.KernelIdeal.Gen.dats m 0 c).arrAt 6 Cert.KernelIdeal.cfg0.N : Cert.KernelIdeal.S4x8192x2048.Idx → EReal)
      = fun j => attn (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (j 0).val (j 1).val (j 2).val := by
  refine (array_eq m c).trans (funext fun j => kernelVal_eq _ _ _ (fun h r x hh hr hx => ?_) _ _ _ (j 1).isLt (j 2).isLt)
  refine (bias_read m c _).trans ?_
  show wideBias _ (h % 16) (r % 128) (x % 640) = _
  rw [Nat.mod_eq_of_lt hh, Nat.mod_eq_of_lt hr, Nat.mod_eq_of_lt hx]

/-! ## The claims -/

theorem frame_kernel : Cert.quiescent_Kernel := fun m g _ => Cert.Kernel.Gen.frame m g

theorem frame_ideal : Cert.quiescent_KernelIdeal := fun m g _ => Cert.KernelIdeal.Gen.frame m g

theorem frame_ideal_finite : Cert.quiescent_KernelIdeal_pre_finite := fun m g _ => Cert.KernelIdeal.Gen.frame m g

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_finite : Cert.quiescent_ReferenceIdeal_pre_finite := fun m g _ => frame_reference m g trivial

theorem preserves : Cert.preserves_Kernel_KernelIdeal :=
  ⟨IdealRules.named_const.statement Cert.KernelIdeal.κ "s" .f32 0x3DB504F3#32 (((Real.sqrt 128)⁻¹ : ℝ) : EReal) rfl,
    IdealRules.named_const.statement Cert.KernelIdeal.κ "mask" .f32 0xF149F2CA#32 ⊥ rfl⟩

theorem algebraic : Cert.algebraic_KernelIdeal_ReferenceIdeal_pre_finite := by
  intro m g m' g' hpre hagree
  refine ⟨fun c => fun j => attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (j 0).val (j 1).val (j 2).val,
    (θ_run Cert.KernelIdeal.defs _ _).mono (fun r h c => ⟨(h c).1.trans (result_eq m c), (h c).2⟩)
      (Cert.KernelIdeal.Value.run_blocks m g),
    (θ_run Cert.ReferenceIdeal.defs _ _).mono (fun r h c => ⟨(h c).1.trans ?_, (h c).2⟩)
      (Cert.ReferenceIdeal.Value.run m' g')⟩
  obtain ⟨hQ, hR⟩ := real_args _ _ (hpre c)
  refine (Cert.ReferenceIdeal.Read.val_main_v82_eq m' c).trans ?_
  rw [(hagree c).1, (hagree c).2]
  exact funext fun j => reference_eq _ _ hQ hR j

end Cert.Attn

end
-- ==== Proof.ProjValue.lean ====
/-
  The fused projection: what the kernel leaves, and what the reference computes, entry by entry.
-/
module

public import proofs.«01_k».proof.Proof.Gen.ProjIdeal.Value
public import proofs.«01_k».proof.Proof.Gen.ProjRefIdeal.Read
public import Idealize.ShloMosaic.Lib.Pipeline.ValueKit.Point

@[expose] public section

set_option maxRecDepth 16384

noncomputable section

namespace Cert.Proj

open Idealize.ShloMosaic Idealize.ShloMosaic.TcCoe Cert.ProjIdeal Cert.ProjIdeal.Gen
open scoped BigOperators

theorem idx_0 : ∀ t : Fin cfg0.N, win0_0.index t = ![t.val % 64, 0] :=
  (by decide +kernel : ∀ t : Fin grid0.N, win0_0.index t = ![t.val % 64, 0])
theorem idx_1 : ∀ t : Fin cfg0.N, win0_1.index t = ![0, t.val / 64] :=
  (by decide +kernel : ∀ t : Fin grid0.N, win0_1.index t = ![0, t.val / 64])
theorem idx_2 : ∀ t : Fin cfg0.N, win0_2.index t = ![t.val % 64, t.val / 64] :=
  (by decide +kernel : ∀ t : Fin grid0.N, win0_2.index t = ![t.val % 64, t.val / 64])

/-- The stored block is the product of the loaded ones. -/
theorem out_eq (X : S512x2048.Idx → EReal) (W : S2048x2048.Idx → EReal) : out0_2 (F := Ideal) X W = k0_pay1 (F := Ideal) X W := by
  unfold out0_2
  rw [View.canon_cons_unit_lit _ _ _ (by decide), View.ld_unit_lit _ _ (by decide), View.ld_unit_lit _ _ (by decide)]

variable (m : (ℓ : Loc nD τ sig) → Buf (Elt Ideal) ℓ) (c : Dev nD)

/-- The kernel's array is the reference's: one entry is the row's product with the column. -/
theorem array_eq : ((Gen.dats m 0 c).arrAt 2 cfg0.N : S32768x6144.Idx → EReal)
    = Cert.ProjRefIdeal.Read.val_main_v3 (F := Ideal) (m ((c : Thread nD τ).loc main_arg0)) (m ((c : Thread nD τ).loc main_arg1)) := by
  refine (Gen.dats m 0 c).arrAt_eq_of_covers 2 _ (by decide +kernel) fun t hf y => ?_
  blk_simp
  rw [after0_2, out_eq]
  pointwise [k0_pay1, Cert.ProjRefIdeal.Read.val_main_v3_apply, Cert.ProjRefIdeal.Read.val_main_v2_apply, Cert.ProjRefIdeal.Read.val_main_v1_apply, Cert.ProjRefIdeal.Read.val_main_v0_apply]
  reads_congr
  · blk_simp [iblk, idx_0 t, idx_2 t]
    entry_read
    pointwise
    blk_ext [iblk, idx_0 t, idx_2 t]
    rw [show ((t.val % 64 * 512 + (y 0).val) * 6144 + (t.val / 64 * 2048 + (y 1).val)) / 6144 = t.val % 64 * 512 + (y 0).val by omega]
  · blk_simp [iblk, idx_1 t, idx_2 t]
    entry_read
    pointwise
    blk_ext [iblk, idx_1 t, idx_2 t]

end Cert.Proj
end
-- ==== Proof.KvPromptValue.lean ====
/-
  The newest keys and values: what the kernel leaves, and what the reference computes, entry by entry.
-/
module

public import proofs.«01_k».proof.Proof.Gen.KvPromptIdeal.Value
public import proofs.«01_k».proof.Proof.Gen.KvPromptRefIdeal.Read
public import Idealize.ShloMosaic.Lib.Pipeline.ValueKit.Point

@[expose] public section

set_option maxRecDepth 16384
set_option maxHeartbeats 1000000

noncomputable section

namespace Cert.KvPrompt

open Idealize.ShloMosaic Idealize.ShloMosaic.TcCoe Cert.KvPromptIdeal Cert.KvPromptIdeal.Gen Cert.KvPromptRefIdeal.Read
open scoped BigOperators

theorem idx_0 : ∀ t : Fin cfg0.N, win0_0.index t = ![t.val % 4, 0] :=
  (by decide +kernel : ∀ t : Fin grid0.N, win0_0.index t = ![t.val % 4, 0])
theorem idx_1 : ∀ t : Fin cfg0.N, win0_1.index t = ![0, t.val / 4] :=
  (by decide +kernel : ∀ t : Fin grid0.N, win0_1.index t = ![0, t.val / 4])
theorem idx_2 : ∀ t : Fin cfg0.N, win0_2.index t = ![t.val % 4, t.val / 4] :=
  (by decide +kernel : ∀ t : Fin grid0.N, win0_2.index t = ![t.val % 4, t.val / 4])

/-- The stored block is the product of the loaded ones. -/
theorem out_eq (X : S512x2048.Idx → EReal) (W : S2048x2048.Idx → EReal) : out0_2 (F := Ideal) X W = k0_pay1 (F := Ideal) X W := by
  unfold out0_2
  rw [View.canon_cons_unit_lit _ _ _ (by decide), View.ld_unit_lit _ _ (by decide), View.ld_unit_lit _ _ (by decide)]

variable (m : (ℓ : Loc nD τ sig) → Buf (Elt Ideal) ℓ) (c : Dev nD)

/-- The rows the kernel reads: the last 512 of each prompt. -/
theorem rows (i : S2048x2048.Idx) : Gen.V (F := Ideal) m c main_v4 i
    = m ((c : Thread nD τ).loc main_arg0) (ix3 ⟨(i 0).val / 512, by have := (i 0).isLt; simp [S2048x2048] at this; omega⟩
        ⟨7680 + (i 0).val % 512, by omega⟩ (i 1)) := by
  entry_read
  pointwise

/-- The columns it reads: all but the first 2048. -/
theorem cols (i : S2048x4096.Idx) : Gen.V (F := Ideal) m c main_v2 i
    = m ((c : Thread nD τ).loc main_arg1) (ix3 0 (i 0) ⟨2048 + (i 1).val, by have := (i 1).isLt; simp [S2048x4096] at this; omega⟩) := by
  entry_read
  pointwise

/-- The kernel's array is the reference's: keys in the left half of the columns, values in the right half. -/
theorem array_eq : ((Gen.dats m 0 c).arrAt 2 cfg0.N : S2048x4096.Idx → EReal)
    = val_main_v10 (F := Ideal) (m ((c : Thread nD τ).loc main_arg0)) (m ((c : Thread nD τ).loc main_arg1)) := by
  refine (Gen.dats m 0 c).arrAt_eq_of_covers 2 _ (by decide +kernel) fun t hf y => ?_
  blk_simp
  rw [after0_2, out_eq]
  unfold val_main_v10 val_main_v9
  pointwise [k0_pay1, val_main_v8_apply, val_main_v7_apply, val_main_v6_apply, val_main_v5_apply, val_main_v4_apply, val_main_v3_apply, val_main_v2_apply, val_main_v1_apply, val_main_v0_apply]
  symm
  refine ValueKit.dite_eq_of (fun h => ?_) (fun h => ?_) <;> symm
  all_goals reads_congr
  all_goals
    blk_simp [iblk, idx_0 t, idx_1 t, idx_2 t] at h ⊢
    first
    | refine (rows m c _).trans ?_
    | refine (cols m c _).trans ?_
    blk_ext [iblk, idx_0 t, idx_1 t, idx_2 t]

end Cert.KvPrompt
end
-- ==== Proof.KvSampleValue.lean ====
/-
  The newest keys and values: what the kernel leaves, and what the reference computes, entry by entry.
-/
module

public import proofs.«01_k».proof.Proof.Gen.KvSampleIdeal.Value
public import proofs.«01_k».proof.Proof.Gen.KvSampleRefIdeal.Read
public import Idealize.ShloMosaic.Lib.Pipeline.ValueKit.Point

@[expose] public section

set_option maxRecDepth 16384
set_option maxHeartbeats 4000000

noncomputable section

namespace Cert.KvSample

open Idealize.ShloMosaic Idealize.ShloMosaic.TcCoe Cert.KvSampleIdeal Cert.KvSampleIdeal.Gen Cert.KvSampleRefIdeal.Read
open scoped BigOperators

theorem idx_0 : ∀ t : Fin cfg0.N, win0_0.index t = ![0, 0] :=
  (by decide +kernel : ∀ t : Fin grid0.N, win0_0.index t = ![0, 0])
theorem idx_1 : ∀ t : Fin cfg0.N, win0_1.index t = ![0, t.val] :=
  (by decide +kernel : ∀ t : Fin grid0.N, win0_1.index t = ![0, t.val])
theorem idx_2 : ∀ t : Fin cfg0.N, win0_2.index t = ![0, t.val] :=
  (by decide +kernel : ∀ t : Fin grid0.N, win0_2.index t = ![0, t.val])

/-- The stored block is the product of the loaded ones. -/
theorem out_eq (X : S128x2048.Idx → EReal) (W : S2048x2048.Idx → EReal) : out0_2 (F := Ideal) X W = k0_pay1 (F := Ideal) X W := by
  unfold out0_2
  rw [View.canon_cons_unit_lit _ _ _ (by decide), View.ld_unit_lit _ _ (by decide), View.ld_unit_lit _ _ (by decide)]

variable (m : (ℓ : Loc nD τ sig) → Buf (Elt Ideal) ℓ) (c : Dev nD)

/-- The kernel's array is the reference's: keys in the left half of the columns, values in the right half. -/
theorem array_eq : ((Gen.dats m 0 c).arrAt 2 cfg0.N : S128x4096.Idx → EReal)
    = val_main_v10 (F := Ideal) (m ((c : Thread nD τ).loc main_arg0)) (m ((c : Thread nD τ).loc main_arg1)) := by
  refine (Gen.dats m 0 c).arrAt_eq_of_covers 2 _ (by decide +kernel) fun t hf y => ?_
  blk_simp
  rw [after0_2, out_eq]
  unfold val_main_v10 val_main_v9
  pointwise [k0_pay1, val_main_v8_apply, val_main_v7_apply, val_main_v6_apply, val_main_v5_apply, val_main_v4_apply, val_main_v3_apply, val_main_v2_apply, val_main_v1_apply, val_main_v0_apply]
  symm
  refine ValueKit.dite_eq_of (fun h => ?_) (fun h => ?_) <;> symm
  all_goals reads_congr
  all_goals
    blk_simp [iblk, idx_0 t, idx_1 t, idx_2 t] at h ⊢
    entry_read
    pointwise
    blk_ext [iblk, idx_0 t, idx_1 t, idx_2 t]

end Cert.KvSample
end
-- ==== Proof.ProjLnValue.lean ====
/-
  The output projection and its norm: what the kernel leaves, and what the reference computes, entry by entry.
-/
module

public import proofs.«01_k».proof.Proof.Gen.ProjLnIdeal.Value
public import proofs.«01_k».proof.Proof.Gen.ProjLnRefIdeal.Read
public import Idealize.ShloMosaic.Lib.Pipeline.ValueKit.Point

@[expose] public section

set_option maxRecDepth 16384
set_option maxHeartbeats 4000000

noncomputable section

namespace Cert.ProjLn

open Idealize.ShloMosaic Idealize.ShloMosaic.TcCoe Cert.ProjLnIdeal Cert.ProjLnIdeal.Gen Cert.ProjLnRefIdeal.Read
open scoped BigOperators

theorem idx_0 : ∀ t : Fin cfg0.N, win0_0.index t = ![t.val, 0] :=
  (by decide +kernel : ∀ t : Fin grid0.N, win0_0.index t = ![t.val, 0])
theorem idx_1 : ∀ t : Fin cfg0.N, win0_1.index t = ![0, 0] :=
  (by decide +kernel : ∀ t : Fin grid0.N, win0_1.index t = ![0, 0])
theorem idx_2 : ∀ t : Fin cfg0.N, win0_2.index t = ![t.val, 0] :=
  (by decide +kernel : ∀ t : Fin grid0.N, win0_2.index t = ![t.val, 0])
theorem idx_3 : ∀ t : Fin cfg0.N, win0_3.index t = ![0, 0] :=
  (by decide +kernel : ∀ t : Fin grid0.N, win0_3.index t = ![0, 0])
theorem idx_4 : ∀ t : Fin cfg0.N, win0_4.index t = ![0, 0] :=
  (by decide +kernel : ∀ t : Fin grid0.N, win0_4.index t = ![0, 0])
theorem idx_5 : ∀ t : Fin cfg0.N, win0_5.index t = ![t.val, 0] :=
  (by decide +kernel : ∀ t : Fin grid0.N, win0_5.index t = ![t.val, 0])
theorem idx_6 : ∀ t : Fin cfg0.N, win0_6.index t = ![t.val, 0] :=
  (by decide +kernel : ∀ t : Fin grid0.N, win0_6.index t = ![t.val, 0])

/-- The stored blocks are the payloads of the loaded ones. -/
theorem out_eq (O : S512x2048.Idx → EReal) (W : S2048x2048.Idx → EReal) (X : S512x2048.Idx → EReal) (G B : S1x2048.Idx → EReal) :
    out0_5 (F := Ideal) O W X G B = k0_pay1 (F := Ideal) O W X G B := by
  unfold out0_5
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide)]

theorem out_eq_6 (O : S512x2048.Idx → EReal) (W : S2048x2048.Idx → EReal) (X : S512x2048.Idx → EReal) (G B : S1x2048.Idx → EReal) :
    out0_6 (F := Ideal) O W X G B = k0_pay1 (F := Ideal) O W X G B := by
  unfold out0_6
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide)]
  rfl

variable (m : (ℓ : Loc nD τ sig) → Buf (Elt Ideal) ℓ) (c : Dev nD)

/-- One entry of a block: the row's product with the weights and the scaled input, normed along the row. -/
theorem block_eq (t : Fin cfg0.N) (y : ((cfg0.win 5).xblock (cfg0.grid.coords t)).Idx) :
    k0_pay1 (F := Ideal) (iblk m c 0 t) (iblk m c 1 t) (iblk m c 2 t) (iblk m c 3 t) (iblk m c 4 t) y
      = val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
          (((View.whole main_v5_0).slice (win0_5.rect t)).emb y) := by
  pointwise [k0_pay1, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_4_apply, val_main_cst_3_apply, val_main_cst_2_apply, val_main_cst_1_apply, val_main_cst_0_apply, val_main_cst_apply]
  reads_congr
  all_goals
    blk_simp [iblk, idx_0 t, idx_1 t, idx_2 t, idx_3 t, idx_4 t, idx_5 t, idx_6 t]
    entry_read
    pointwise
    blk_ext [iblk, idx_0 t, idx_1 t, idx_2 t, idx_3 t, idx_4 t, idx_5 t, idx_6 t]

/-- The kernel's first array is the reference's. -/
theorem array_eq : ((Gen.dats m 0 c).arrAt 5 cfg0.N : S32768x2048.Idx → EReal)
    = val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (Gen.dats m 0 c).arrAt_eq_of_covers 5 _ (by decide +kernel) fun t hf y => ?_
  blk_simp
  rw [after0_5, out_eq]
  exact block_eq m c t y

/-- The second array is the first one in half precision, which is the same number. -/
theorem array_eq_6 : ((Gen.dats m 0 c).arrAt 6 cfg0.N : S32768x2048.Idx → EReal)
    = val_main_v30 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (Gen.dats m 0 c).arrAt_eq_of_covers 6 _ (by decide +kernel) fun t hf y => ?_
  blk_simp
  rw [after0_6, out_eq_6]
  exact block_eq m c t y

end Cert.ProjLn
end
-- ==== Proof.PleValue.lean ====
/-
  The gated embedding: what the kernel leaves, and what the reference computes, entry by entry.
-/
module

public import proofs.«01_k».proof.Proof.Gen.PleIdeal.Value
public import proofs.«01_k».proof.Proof.Gen.PleRefIdeal.Read
public import Idealize.ShloMosaic.Lib.Pipeline.ValueKit.Point

@[expose] public section

set_option maxRecDepth 16384
set_option maxHeartbeats 4000000

noncomputable section

namespace Cert.Ple

open Idealize.ShloMosaic Idealize.ShloMosaic.TcCoe Cert.PleIdeal Cert.PleIdeal.Gen Cert.PleRefIdeal.Read
open scoped BigOperators

theorem idx_0 : ∀ t : Fin cfg0.N, win0_0.index t = ![t.val, 0] :=
  (by decide +kernel : ∀ t : Fin grid0.N, win0_0.index t = ![t.val, 0])
theorem idx_1 : ∀ t : Fin cfg0.N, win0_1.index t = ![t.val, 0] :=
  (by decide +kernel : ∀ t : Fin grid0.N, win0_1.index t = ![t.val, 0])
theorem idx_2 : ∀ t : Fin cfg0.N, win0_2.index t = ![0, 0] :=
  (by decide +kernel : ∀ t : Fin grid0.N, win0_2.index t = ![0, 0])
theorem idx_3 : ∀ t : Fin cfg0.N, win0_3.index t = ![0, 0] :=
  (by decide +kernel : ∀ t : Fin grid0.N, win0_3.index t = ![0, 0])
theorem idx_4 : ∀ t : Fin cfg0.N, win0_4.index t = ![t.val, 0] :=
  (by decide +kernel : ∀ t : Fin grid0.N, win0_4.index t = ![t.val, 0])

/-- The stored block is the payload of the loaded ones. -/
theorem out_eq (X : S512x2048.Idx → EReal) (P : S512x256.Idx → EReal) (G : S2048x2048.Idx → EReal) (W : S256x2048.Idx → EReal) :
    out0_4 (F := Ideal) X P G W = k0_pay1 (F := Ideal) X G P W := by
  unfold out0_4
  rw [View.canon_cons_unit_lit _ _ _ (by decide), View.ld_unit_lit _ _ (by decide), View.ld_unit_lit _ _ (by decide),
    View.ld_unit_lit _ _ (by decide), View.ld_unit_lit _ _ (by decide)]

variable (m : (ℓ : Loc nD τ sig) → Buf (Elt Ideal) ℓ) (c : Dev nD)

/-- The kernel's array is the reference's. -/
theorem array_eq : ((Gen.dats m 0 c).arrAt 4 cfg0.N : S32768x2048.Idx → EReal)
    = val_main_v10 (F := Ideal) (m ((c : Thread nD τ).loc main_arg0)) (m ((c : Thread nD τ).loc main_arg1))
        (m ((c : Thread nD τ).loc main_arg2)) (m ((c : Thread nD τ).loc main_arg3)) := by
  refine (Gen.dats m 0 c).arrAt_eq_of_covers 4 _ (by decide +kernel) fun t hf y => ?_
  blk_simp
  rw [after0_4, out_eq]
  pointwise [k0_pay1, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply]
  simp only [Ideal.logistic]
  reads_congr
  all_goals
    blk_simp [iblk, idx_0 t, idx_1 t, idx_2 t, idx_3 t, idx_4 t]
    entry_read
    pointwise
    blk_ext [iblk, idx_0 t, idx_1 t, idx_2 t, idx_3 t, idx_4 t]

end Cert.Ple
end
-- ==== Proof.CallsClaim.lean ====
/-
  The claims about the layer's other calls: the two frames of each, and the equality of the results.
-/
module

public import proofs.«01_k».proof.Defs
public import proofs.«01_k».proof.Proof.Gen.Proj.Frame
public import proofs.«01_k».proof.Proof.Gen.ProjRefIdeal.Run
public import proofs.«01_k».proof.Proof.ProjValue
public import proofs.«01_k».proof.Proof.Gen.KvPrompt.Frame
public import proofs.«01_k».proof.Proof.Gen.KvPromptRefIdeal.Run
public import proofs.«01_k».proof.Proof.KvPromptValue
public import proofs.«01_k».proof.Proof.Gen.KvSample.Frame
public import proofs.«01_k».proof.Proof.Gen.KvSampleRefIdeal.Run
public import proofs.«01_k».proof.Proof.KvSampleValue
public import proofs.«01_k».proof.Proof.Gen.ProjLn.Frame
public import proofs.«01_k».proof.Proof.Gen.ProjLnRefIdeal.Run
public import proofs.«01_k».proof.Proof.ProjLnValue
public import proofs.«01_k».proof.Proof.Gen.Ple.Frame
public import proofs.«01_k».proof.Proof.Gen.PleRefIdeal.Run
public import proofs.«01_k».proof.Proof.PleValue
public import Idealize.ShloMosaic.Lib.Claim

@[expose] public section

noncomputable section

open Idealize.ShloMosaic Idealize.SL.Sem Idealize.ShloMosaic.TcCoe

/-! ## The fused projection -/

namespace Cert.Proj

theorem frame_kernel : Cert.quiescent_Proj := fun m g _ => Cert.Proj.Gen.frame m g

theorem frame_ideal : Cert.quiescent_ProjIdeal := fun m g _ => Cert.ProjIdeal.Gen.frame m g

theorem frame_reference : Cert.quiescent_ProjRefIdeal := fun m g _ =>
  (θ_run Cert.ProjRefIdeal.defs _ _).mono (fun r h => ⟨fun c => (h c).2, sem_eq_zero_of_no_sems (by decide) r.2⟩)
    (Cert.ProjRefIdeal.Value.run (F := Ideal) m g)

theorem preserves : Cert.preserves_Proj_ProjIdeal := trivial

theorem algebraic : Cert.algebraic_ProjIdeal_ProjRefIdeal := by
  intro m g m' g' hpre hagree
  refine ⟨fun c => Cert.ProjRefIdeal.Read.val_main_v3 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)),
    (θ_run Cert.ProjIdeal.defs _ _).mono (fun r h c => ⟨(h c).1.trans (Cert.Proj.array_eq m c), (h c).2⟩)
      (Cert.ProjIdeal.Value.run_blocks m g),
    (θ_run Cert.ProjRefIdeal.defs _ _).mono (fun r h c => ⟨(h c).1.trans ?_, (h c).2⟩)
      (Cert.ProjRefIdeal.Value.run m' g')⟩
  all_goals obtain ⟨h0, h1⟩ := hagree c
  · exact (Cert.ProjRefIdeal.Read.val_main_v3_eq _ _).trans (by rw [h0, h1])

end Cert.Proj

/-! ## The new keys and values of the prompt -/

namespace Cert.KvPrompt

theorem frame_kernel : Cert.quiescent_KvPrompt := fun m g _ => Cert.KvPrompt.Gen.frame m g

theorem frame_ideal : Cert.quiescent_KvPromptIdeal := fun m g _ => Cert.KvPromptIdeal.Gen.frame m g

theorem frame_reference : Cert.quiescent_KvPromptRefIdeal := fun m g _ =>
  (θ_run Cert.KvPromptRefIdeal.defs _ _).mono (fun r h => ⟨fun c => (h c).2, sem_eq_zero_of_no_sems (by decide) r.2⟩)
    (Cert.KvPromptRefIdeal.Value.run (F := Ideal) m g)

theorem preserves : Cert.preserves_KvPrompt_KvPromptIdeal := trivial

theorem algebraic : Cert.algebraic_KvPromptIdeal_KvPromptRefIdeal := by
  intro m g m' g' hpre hagree
  refine ⟨fun c => Cert.KvPromptRefIdeal.Read.val_main_v10 (F := Ideal) (m ((c.tc : Thread Cert.KvPromptIdeal.nD Cert.KvPromptIdeal.τ).loc Cert.KvPromptIdeal.main_arg0)) (m ((c.tc : Thread Cert.KvPromptIdeal.nD Cert.KvPromptIdeal.τ).loc Cert.KvPromptIdeal.main_arg1)),
    (θ_run Cert.KvPromptIdeal.defs _ _).mono (fun r h c => ⟨(h c).1.trans (Cert.KvPrompt.array_eq m c), (h c).2⟩)
      (Cert.KvPromptIdeal.Value.run_blocks m g),
    (θ_run Cert.KvPromptRefIdeal.defs _ _).mono (fun r h c => ⟨(h c).1.trans ?_, (h c).2⟩)
      (Cert.KvPromptRefIdeal.Value.run m' g')⟩
  all_goals obtain ⟨h0, h1⟩ := hagree c
  · exact (Cert.KvPromptRefIdeal.Read.val_main_v10_eq _ _).trans (by rw [h0, h1])

end Cert.KvPrompt

/-! ## The new keys and values of the sample -/

namespace Cert.KvSample

theorem frame_kernel : Cert.quiescent_KvSample := fun m g _ => Cert.KvSample.Gen.frame m g

theorem frame_ideal : Cert.quiescent_KvSampleIdeal := fun m g _ => Cert.KvSampleIdeal.Gen.frame m g

theorem frame_reference : Cert.quiescent_KvSampleRefIdeal := fun m g _ =>
  (θ_run Cert.KvSampleRefIdeal.defs _ _).mono (fun r h => ⟨fun c => (h c).2, sem_eq_zero_of_no_sems (by decide) r.2⟩)
    (Cert.KvSampleRefIdeal.Value.run (F := Ideal) m g)

theorem preserves : Cert.preserves_KvSample_KvSampleIdeal := trivial

theorem algebraic : Cert.algebraic_KvSampleIdeal_KvSampleRefIdeal := by
  intro m g m' g' hpre hagree
  refine ⟨fun c => Cert.KvSampleRefIdeal.Read.val_main_v10 (F := Ideal) (m ((c.tc : Thread Cert.KvSampleIdeal.nD Cert.KvSampleIdeal.τ).loc Cert.KvSampleIdeal.main_arg0)) (m ((c.tc : Thread Cert.KvSampleIdeal.nD Cert.KvSampleIdeal.τ).loc Cert.KvSampleIdeal.main_arg1)),
    (θ_run Cert.KvSampleIdeal.defs _ _).mono (fun r h c => ⟨(h c).1.trans (Cert.KvSample.array_eq m c), (h c).2⟩)
      (Cert.KvSampleIdeal.Value.run_blocks m g),
    (θ_run Cert.KvSampleRefIdeal.defs _ _).mono (fun r h c => ⟨(h c).1.trans ?_, (h c).2⟩)
      (Cert.KvSampleRefIdeal.Value.run m' g')⟩
  all_goals obtain ⟨h0, h1⟩ := hagree c
  · exact (Cert.KvSampleRefIdeal.Read.val_main_v10_eq _ _).trans (by rw [h0, h1])

end Cert.KvSample

/-! ## The output projection with its norm -/

namespace Cert.ProjLn

theorem frame_kernel : Cert.quiescent_ProjLn := fun m g _ => Cert.ProjLn.Gen.frame m g

theorem frame_ideal : Cert.quiescent_ProjLnIdeal := fun m g _ => Cert.ProjLnIdeal.Gen.frame m g

theorem frame_reference : Cert.quiescent_ProjLnRefIdeal := fun m g _ =>
  (θ_run Cert.ProjLnRefIdeal.defs _ _).mono (fun r h => ⟨fun c => (h c).2.2, sem_eq_zero_of_no_sems (by decide) r.2⟩)
    (Cert.ProjLnRefIdeal.Value.run (F := Ideal) m g)

theorem preserves : Cert.preserves_ProjLn_ProjLnIdeal := trivial

theorem algebraic : Cert.algebraic_ProjLnIdeal_ProjLnRefIdeal := by
  intro m g m' g' hpre hagree
  refine ⟨fun c => Cert.ProjLnRefIdeal.Read.val_main_v29 (F := Ideal) (m ((c.tc : Thread Cert.ProjLnIdeal.nD Cert.ProjLnIdeal.τ).loc Cert.ProjLnIdeal.main_arg0)) (m ((c.tc : Thread Cert.ProjLnIdeal.nD Cert.ProjLnIdeal.τ).loc Cert.ProjLnIdeal.main_arg1)) (m ((c.tc : Thread Cert.ProjLnIdeal.nD Cert.ProjLnIdeal.τ).loc Cert.ProjLnIdeal.main_arg2)) (m ((c.tc : Thread Cert.ProjLnIdeal.nD Cert.ProjLnIdeal.τ).loc Cert.ProjLnIdeal.main_arg3)) (m ((c.tc : Thread Cert.ProjLnIdeal.nD Cert.ProjLnIdeal.τ).loc Cert.ProjLnIdeal.main_arg4)), fun c => Cert.ProjLnRefIdeal.Read.val_main_v30 (F := Ideal) (m ((c.tc : Thread Cert.ProjLnIdeal.nD Cert.ProjLnIdeal.τ).loc Cert.ProjLnIdeal.main_arg0)) (m ((c.tc : Thread Cert.ProjLnIdeal.nD Cert.ProjLnIdeal.τ).loc Cert.ProjLnIdeal.main_arg1)) (m ((c.tc : Thread Cert.ProjLnIdeal.nD Cert.ProjLnIdeal.τ).loc Cert.ProjLnIdeal.main_arg2)) (m ((c.tc : Thread Cert.ProjLnIdeal.nD Cert.ProjLnIdeal.τ).loc Cert.ProjLnIdeal.main_arg3)) (m ((c.tc : Thread Cert.ProjLnIdeal.nD Cert.ProjLnIdeal.τ).loc Cert.ProjLnIdeal.main_arg4)),
    (θ_run Cert.ProjLnIdeal.defs _ _).mono (fun r h c => ⟨(h c).1.trans (Cert.ProjLn.array_eq m c), (h c).2.1.trans (Cert.ProjLn.array_eq_6 m c), (h c).2.2⟩)
      (Cert.ProjLnIdeal.Value.run_blocks m g),
    (θ_run Cert.ProjLnRefIdeal.defs _ _).mono (fun r h c => ⟨(h c).1.trans ?_, (h c).2.1.trans ?_, (h c).2.2⟩)
      (Cert.ProjLnRefIdeal.Value.run m' g')⟩
  all_goals obtain ⟨h0, h1, h2, h3, h4⟩ := hagree c
  · exact (Cert.ProjLnRefIdeal.Read.val_main_v29_eq _ _ _ _ _).trans (by rw [h0, h1, h2, h3, h4])
  · exact (Cert.ProjLnRefIdeal.Read.val_main_v30_eq _ _ _ _ _).trans (by rw [h0, h1, h2, h3, h4])

end Cert.ProjLn

/-! ## The gated embedding -/

namespace Cert.Ple

theorem frame_kernel : Cert.quiescent_Ple := fun m g _ => Cert.Ple.Gen.frame m g

theorem frame_ideal : Cert.quiescent_PleIdeal := fun m g _ => Cert.PleIdeal.Gen.frame m g

theorem frame_reference : Cert.quiescent_PleRefIdeal := fun m g _ =>
  (θ_run Cert.PleRefIdeal.defs _ _).mono (fun r h => ⟨fun c => (h c).2, sem_eq_zero_of_no_sems (by decide) r.2⟩)
    (Cert.PleRefIdeal.Value.run (F := Ideal) m g)

theorem preserves : Cert.preserves_Ple_PleIdeal := trivial

theorem algebraic : Cert.algebraic_PleIdeal_PleRefIdeal := by
  intro m g m' g' hpre hagree
  refine ⟨fun c => Cert.PleRefIdeal.Read.val_main_v10 (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)),
    (θ_run Cert.PleIdeal.defs _ _).mono (fun r h c => ⟨(h c).1.trans (Cert.Ple.array_eq m c), (h c).2⟩)
      (Cert.PleIdeal.Value.run_blocks m g),
    (θ_run Cert.PleRefIdeal.defs _ _).mono (fun r h c => ⟨(h c).1.trans ?_, (h c).2⟩)
      (Cert.PleRefIdeal.Value.run m' g')⟩
  all_goals obtain ⟨h0, h1, h2, h3⟩ := hagree c
  · exact (Cert.PleRefIdeal.Read.val_main_v10_eq _ _ _ _).trans (by rw [h0, h1, h2, h3])

end Cert.Ple

end
-- ==== Proof.PoolTape.lean ====
/-
  One block of the pooling mixer: what a point of the grid leaves in its blocks of the results and in its scratch rows,
  from its input blocks and the rows the point before left.
-/
module

public import proofs.«01_k».proof.Proof.Gen.PoolIdeal.Frame
public import proofs.«01_k».proof.Proof.AttnAt
public import Idealize.ShloMosaic.Lib.Writes
public import Idealize.ShloMosaic.Lib.Pipeline.ValueKit.Point

@[expose] public section

set_option maxRecDepth 16384
set_option maxHeartbeats 1000000

noncomputable section

namespace Cert.Pool

open Idealize.ShloMosaic Cert.PoolIdeal Cert.PoolIdeal.Gen Cert.Attn

/-- The scratch rows while a point works: 16 rows of the past, then the block's own. -/
def tape (h : ℕ → ℕ → EReal) (u : S512x2048.Idx → EReal) (j : S528x2048.Idx) : EReal :=
  if (j 0).val < 16 then h (j 0).val (j 1).val else at2 u ((j 0).val - 16) (j 1).val

theorem tape_low (h : ℕ → ℕ → EReal) (u : S512x2048.Idx → EReal) (r q : ℕ) (hr : r < 16) (hq : q < 2048) :
    at2 (tape h u) r q = h r q := by
  unfold at2 tape
  have e0 : ((ValueIdx.ix2 (Fin.ofNat 528 r) (Fin.ofNat 2048 q) : S528x2048.Idx) 0).val = r := Nat.mod_eq_of_lt (by omega)
  have e1 : ((ValueIdx.ix2 (Fin.ofNat 528 r) (Fin.ofNat 2048 q) : S528x2048.Idx) 1).val = q := Nat.mod_eq_of_lt hq
  rw [e0, e1, if_pos hr]

theorem tape_high (h : ℕ → ℕ → EReal) (u : S512x2048.Idx → EReal) (r q : ℕ) (hr : r < 512) (hq : q < 2048) :
    at2 (tape h u) (r + 16) q = at2 u r q := by
  have e0 : ((ValueIdx.ix2 (Fin.ofNat 528 (r + 16)) (Fin.ofNat 2048 q) : S528x2048.Idx) 0).val = r + 16 :=
    Nat.mod_eq_of_lt (by omega)
  have e1 : ((ValueIdx.ix2 (Fin.ofNat 528 (r + 16)) (Fin.ofNat 2048 q) : S528x2048.Idx) 1).val = q := Nat.mod_eq_of_lt hq
  change tape h u (ValueIdx.ix2 (Fin.ofNat 528 (r + 16)) (Fin.ofNat 2048 q)) = _
  unfold tape
  rw [e0, e1, if_neg (by omega), Nat.add_sub_cancel]

/-- The block's 512 rows from row `a` and 512 columns from column `b` of the scratch rows. -/
def ld (E : S528x2048.Idx → EReal) (a b : ℕ) (j : S512x512.Idx) : EReal := at2 E ((j 0).val + a) (b + (j 1).val)

/-- One group's square weights. -/
def ldG (G : S4x512x512.Idx → EReal) (n : ℕ) (j : S1x512x512.Idx) : EReal := at3 G n (j 1).val (j 2).val

theorem load_tape (w : Memref sig .tc .vmem S528x2048 .f32) (X : w.view.ty.Contents (Elt Ideal)) (E : S528x2048.Idx → EReal)
    (h : w.view.read (Elt Ideal) X = E) (a b : ℕ) (inb) :
    View.readAt (Elt Ideal) w.view (Rect.unit (s := S528x2048) ![a, b] S512x512.size inb).toLoadRect X = ld E a b := by
  funext j
  rw [View.readAt_apply, h]
  exact eq_at2 (α := EReal) E _ _ _ ((Rect.idx_unit_val _ _ _ _ _).trans (Nat.add_comm _ _)) (Rect.idx_unit_val _ _ _ _ _)

theorem load_own (w : Memref sig .tc .vmem S528x2048 .f32) (f) (u : S512x2048.Idx → EReal) (L) (i1 inb) :
    View.readAt (Elt Ideal) w.view (Rect.unit (s := S528x2048) ![512, 0] S16x2048.size inb).toLoadRect
        (w.view.writes (Elt Ideal) f (⟨Rect.unit (s := S528x2048) ![16, 0] S512x2048.size i1, u⟩ :: L))
      = fun j : S16x2048.Idx => at2 u (496 + (j 0).val) (j 1).val := by
  funext j
  have h0 : (j 0).val < 16 := (j 0).isLt
  have h1 : (j 1).val < 2048 := (j 1).isLt
  have hb : 496 + (j 0).val < 512 := by omega
  rw [View.readAt_apply]
  have e0 := Rect.idx_unit_val (s := S528x2048) ![512, 0] S16x2048.size inb j 0
  have e1 := Rect.idx_unit_val (s := S528x2048) ![512, 0] S16x2048.size inb j 1
  change (_ : ℕ) = 512 + (j 0).val at e0
  change (_ : ℕ) = 0 + (j 1).val at e1
  refine (View.read_writes_cons_hit_of_coords w.view f (Rect.unit (s := S528x2048) ![16, 0] S512x2048.size i1)
      u L (ValueIdx.ix2 (⟨496 + (j 0).val, hb⟩ : Fin 512) (⟨(j 1).val, h1⟩ : Fin 2048)) _ (fun a => ?_)).trans ?_
  · match a with
    | ⟨0, _⟩ => refine e0.trans ?_; change 512 + (j 0).val = 16 + 1 * (496 + (j 0).val); omega
    | ⟨1, _⟩ => refine e1.trans ?_; change 0 + (j 1).val = 0 + 1 * (j 1).val; omega
  · exact eq_at2 (α := EReal) u (ValueIdx.ix2 (⟨496 + (j 0).val, hb⟩ : Fin 512) (⟨(j 1).val, h1⟩ : Fin 2048)) _ _ rfl rfl

theorem load_group (w : Memref sig .tc .vmem S4x512x512 .bf16) (hw : w.IsWhole) (x : Vec Ideal S4x512x512 .bf16) (n : ℕ) (inb) :
    View.readAt (Elt Ideal) w.view (Rect.unit (s := S4x512x512) ![n, 0, 0] S1x512x512.size inb).toLoadRect (hw.unread x)
      = ldG x n := by
  funext j
  rw [View.readAt_apply, hw.read_unread]
  refine eq_at3 (α := EReal) x _ _ _ _ ?_ ?_ ?_
  · refine (Rect.idx_unit_val _ _ _ _ _).trans ?_
    have hj : (j 0).val < 1 := (j 0).isLt
    show n + (j 0).val = n
    omega
  · exact (Rect.idx_unit_val _ _ _ _ _).trans (Nat.zero_add _)
  · exact (Rect.idx_unit_val _ _ _ _ _).trans (Nat.zero_add _)

/-- A rectangle as large as the array starts at its origin. -/
theorem emb_whole {s : Shape} (o : Fin s.rank → ℕ) (ho : ∀ a, o a = 0) (inb) (x : s.Idx) :
    (Rect.unit (s := s) o s.size inb).emb x = x :=
  funext fun a => Fin.ext ((Rect.idx_unit_val (s := s) o s.size inb x a).trans (by rw [ho, Nat.zero_add]))

/-- A load of a whole buffer gives what it holds. -/
theorem load_whole {s : Shape} {e : EltTy} (w : Memref sig .tc .vmem s e) (hw : w.IsWhole) (o : Fin s.rank → ℕ) (ho : ∀ a, o a = 0)
    (x : Vec Ideal s e) (inb) :
    View.readAt (Elt Ideal) w.view (Rect.unit (s := s) o s.size inb).toLoadRect (hw.unread x) = x := by
  funext j
  rw [View.readAt_apply, hw.read_unread]
  exact congrArg x (emb_whole o ho inb j)

/-- A store of a whole block leaves what it stores. -/
theorem store_whole {s : Shape} {e : EltTy} (w : View sig .tc .vmem s e) (f) (o : Fin s.rank → ℕ) (ho : ∀ a, o a = 0) (inb)
    (P : Vec Ideal s e) (y : s.Idx) :
    w.read (Elt Ideal) (w.writes (Elt Ideal) f [⟨Rect.unit (s := s) o s.size inb, P⟩]) y = P y :=
  (congrArg (w.read (Elt Ideal) (w.writes (Elt Ideal) f [⟨Rect.unit (s := s) o s.size inb, P⟩])) (emb_whole o ho inb y).symm).trans
    (View.read_writes_cons_emb ..)

theorem cast_scale (v : Vec Ideal S1x2048 .f32) : k0_pay17 (F := Ideal) v = v := by
  funext j
  unfold k0_pay17
  pointwise

theorem cast_shift (v : Vec Ideal S1x2048 .f32) : k0_pay18 (F := Ideal) v = v := by
  funext j
  unfold k0_pay18
  pointwise

theorem cast_eq (x : Vec Ideal S1x512x2048 .f32) (w : Vec Ideal S2048x2048 .bf16) :
    k0_pay9 (F := Ideal) x w = k0_pay8 (F := Ideal) x w := by
  funext j
  unfold k0_pay9
  pointwise

theorem cast_hist (x : Vec Ideal S1x16x2048 .f32) (j : S16x2048.Idx) :
    k0_pay6 (F := Ideal) x j = at3 (α := EReal) x 0 (j 0).val (j 1).val := by
  unfold k0_pay6
  pointwise
  exact eq_at3 (α := EReal) _ _ _ _ _ rfl rfl rfl

theorem cast_tail (x : Vec Ideal S16x2048 .f32) (j : S16x2048.Idx) : k0_pay5 (F := Ideal) x j = x j := by
  unfold k0_pay5
  pointwise

/-- The block before its norm: the centred row. -/
def centred (i : grid0.Coords) (x : Vec Ideal S1x512x2048 .f32) (w : Vec Ideal S2048x2048 .bf16) (g : Vec Ideal S4x512x512 .bf16)
    (s : Vec Ideal S1x2048 .f32) (E : S528x2048.Idx → EReal) : S512x2048.Idx → EReal :=
  k0_pay19 (F := Ideal) (k0_pay7 (F := Ideal) x) (k0_pay8 (F := Ideal) x w) (k0_pay10 (F := Ideal) i)
    (k0_pay11 (F := Ideal) i x w (ld E 15 0) (ldG g 0))
    (k0_pay13 (F := Ideal) (k0_pay8 (F := Ideal) x w) (k0_pay10 (F := Ideal) i) (k0_pay12 (F := Ideal) x w) (ld E 15 512) (ld E 14 512) (ld E 13 512) (ldG g 1))
    (k0_pay15 (F := Ideal) (k0_pay14 (F := Ideal) (k0_pay8 (F := Ideal) x w) (k0_pay10 (F := Ideal) i) (ld E 15 1024) (ld E 14 1024) (ld E 13 1024) (ld E 12 1024) (ld E 11 1024) (ld E 10 1024) (ld E 9 1024)) (ldG g 2))
    (k0_pay16 (F := Ideal) (k0_pay8 (F := Ideal) x w) (ld E 15 1536) (ld E 14 1536) (ld E 13 1536) (ld E 12 1536) (ld E 11 1536) (ld E 10 1536) (ld E 9 1536) (ld E 8 1536) (ld E 7 1536) (ld E 6 1536) (ld E 5 1536) (ld E 4 1536) (ld E 3 1536))
    (ld E 2 1536) (ld E 1 1536) (ldG g 3) s

/-- The reciprocal of the row's deviation. -/
def scaled (i : grid0.Coords) (x : Vec Ideal S1x512x2048 .f32) (w : Vec Ideal S2048x2048 .bf16) (g : Vec Ideal S4x512x512 .bf16)
    (s : Vec Ideal S1x2048 .f32) (E : S528x2048.Idx → EReal) : S512x2048.Idx → EReal :=
  k0_pay20 (F := Ideal) (k0_pay7 (F := Ideal) x) (k0_pay8 (F := Ideal) x w) (k0_pay10 (F := Ideal) i)
    (k0_pay11 (F := Ideal) i x w (ld E 15 0) (ldG g 0))
    (k0_pay13 (F := Ideal) (k0_pay8 (F := Ideal) x w) (k0_pay10 (F := Ideal) i) (k0_pay12 (F := Ideal) x w) (ld E 15 512) (ld E 14 512) (ld E 13 512) (ldG g 1))
    (k0_pay15 (F := Ideal) (k0_pay14 (F := Ideal) (k0_pay8 (F := Ideal) x w) (k0_pay10 (F := Ideal) i) (ld E 15 1024) (ld E 14 1024) (ld E 13 1024) (ld E 12 1024) (ld E 11 1024) (ld E 10 1024) (ld E 9 1024)) (ldG g 2))
    (k0_pay16 (F := Ideal) (k0_pay8 (F := Ideal) x w) (ld E 15 1536) (ld E 14 1536) (ld E 13 1536) (ld E 12 1536) (ld E 11 1536) (ld E 10 1536) (ld E 9 1536) (ld E 8 1536) (ld E 7 1536) (ld E 6 1536) (ld E 5 1536) (ld E 4 1536) (ld E 3 1536))
    (ld E 2 1536) (ld E 1 1536) (ldG g 3) s

/-- The rows of a point that starts a sequence, in its scratch. -/
theorem first_read (w : Memref sig .tc .vmem S528x2048 .f32) (f) (u : S512x2048.Idx → EReal)
    (x1 : Vec Ideal S1x16x2048 .f32) (i1 i2) :
    w.view.read (Elt Ideal) (w.view.writes (Elt Ideal) f
      [⟨Rect.unit (s := S528x2048) ![16, 0] S512x2048.size i1, u⟩,
       ⟨Rect.unit (s := S528x2048) ![0, 0] S16x2048.size i2, k0_pay6 (F := Ideal) x1⟩])
      = tape (fun r q => at3 (α := EReal) x1 0 r q) u := by
  funext y
  refine View.read_writes_apply_of_pieces w.view f (tape (fun r q => at3 (α := EReal) x1 0 r q) u) _ ?_ y ?_
  · refine List.forall_mem_cons.2 ⟨fun x => ?_, List.forall_mem_cons.2 ⟨fun x => ?_, fun p hp => absurd hp List.not_mem_nil⟩⟩
    · have e0 := Rect.idx_unit_val (s := S528x2048) ![16, 0] S512x2048.size i1 x 0
      have e1 := Rect.idx_unit_val (s := S528x2048) ![16, 0] S512x2048.size i1 x 1
      change (_ : ℕ) = 16 + (x 0).val at e0
      change (_ : ℕ) = 0 + (x 1).val at e1
      change u x = tape _ u ((Rect.unit (s := S528x2048) ![16, 0] S512x2048.size i1).idx x)
      unfold tape
      rw [e0, e1, if_neg (by omega), Nat.add_sub_cancel_left, Nat.zero_add]
      exact eq_at2 (α := EReal) u x _ _ rfl rfl
    · refine (cast_hist x1 x).trans ?_
      have hx : (x 0).val < 16 := (x 0).isLt
      have e0 := Rect.idx_unit_val (s := S528x2048) ![0, 0] S16x2048.size i2 x 0
      have e1 := Rect.idx_unit_val (s := S528x2048) ![0, 0] S16x2048.size i2 x 1
      change (_ : ℕ) = 0 + (x 0).val at e0
      change (_ : ℕ) = 0 + (x 1).val at e1
      change _ = tape _ u ((Rect.unit (s := S528x2048) ![0, 0] S16x2048.size i2).idx x)
      unfold tape
      rw [e0, e1, if_pos (by omega), Nat.zero_add, Nat.zero_add]
  · have h0 : (y 0).val < 528 := (y 0).isLt
    have h1 : (y 1).val < 2048 := (y 1).isLt
    by_cases h : (y 0).val < 16
    · refine ⟨_, List.mem_cons_of_mem _ List.mem_cons_self, (Rect.mem_set_unit (inb := i2)).2 fun a => ?_⟩
      match a with
      | ⟨0, _⟩ => exact ⟨Nat.zero_le _, show (y 0).val < 0 + 16 by omega⟩
      | ⟨1, _⟩ => exact ⟨Nat.zero_le _, show (y 1).val < 0 + 2048 by omega⟩
    · refine ⟨_, List.mem_cons_self, (Rect.mem_set_unit (inb := i1)).2 fun a => ?_⟩
      match a with
      | ⟨0, _⟩ => exact ⟨show 16 ≤ (y 0).val by omega, show (y 0).val < 16 + 512 by omega⟩
      | ⟨1, _⟩ => exact ⟨Nat.zero_le _, show (y 1).val < 0 + 2048 by omega⟩

/-- The rows of a later point: its past is what the point before left. -/
theorem next_read (w : Memref sig .tc .vmem S528x2048 .f32) (hw : w.IsWhole) (xs : Vec Ideal S528x2048 .f32)
    (u : S512x2048.Idx → EReal) (i1) :
    w.view.read (Elt Ideal) (w.view.writes (Elt Ideal) (hw.unread xs)
      [⟨Rect.unit (s := S528x2048) ![16, 0] S512x2048.size i1, u⟩])
      = tape (fun r q => at2 (α := EReal) xs r q) u := by
  funext y
  have h0 : (y 0).val < 528 := (y 0).isLt
  have h1 : (y 1).val < 2048 := (y 1).isLt
  by_cases h : (y 0).val < 16
  · rw [View.read_writes_cons_miss_of_axis w.view _ _ _ y 0 16 512 rfl rfl rfl (Or.inl h)]
    refine (congrFun (hw.read_unread xs) y).trans ?_
    unfold tape
    rw [if_pos h]
    exact eq_at2 (α := EReal) xs y _ _ rfl rfl
  · have hb : (y 0).val - 16 < 512 := by omega
    refine (View.read_writes_cons_hit_of_coords w.view (hw.unread xs) (Rect.unit (s := S528x2048) ![16, 0] S512x2048.size i1)
      u [] (ValueIdx.ix2 (⟨(y 0).val - 16, hb⟩ : Fin 512) (⟨(y 1).val, h1⟩ : Fin 2048)) y (fun a => ?_)).trans ?_
    · match a with
      | ⟨0, _⟩ => change (y 0).val = 16 + 1 * ((y 0).val - 16); omega
      | ⟨1, _⟩ => change (y 1).val = 0 + 1 * (y 1).val; omega
    · unfold tape
      rw [if_neg h]
      exact eq_at2 (α := EReal) u (ValueIdx.ix2 (⟨(y 0).val - 16, hb⟩ : Fin 512) (⟨(y 1).val, h1⟩ : Fin 2048)) _ _ rfl rfl

/-- The pieces a point stores, over the rows of its scratch while it works: its block of the two results of the norm, the
last rows of its own, and these rows again at the scratch's start. -/
def Leaves (i : grid0.Coords) (x : Vec Ideal S1x512x2048 .f32) (w : Vec Ideal S2048x2048 .bf16) (g : Vec Ideal S4x512x512 .bf16)
    (s gw gb : Vec Ideal S1x2048 .f32) (E : S528x2048.Idx → EReal) (L7 : List (View.Piece (Elt Ideal) S1x512x2048 .f32))
    (L8 : List (View.Piece (Elt Ideal) S1x512x2048 .bf16)) (L9 : List (View.Piece (Elt Ideal) S1x16x2048 .f32))
    (L : List (View.Piece (Elt Ideal) S528x2048 .f32)) : Prop :=
  L7 = [⟨Rect.unit (s := S1x512x2048) ![0, 0, 0] S1x512x2048.size inb_S1x512x2048_S1x512x2048_0_0_0,
      k0_pay2 (F := Ideal) gw gb (centred i x w g s E) (scaled i x w g s E)⟩]
    ∧ L8 = [⟨Rect.unit (s := S1x512x2048) ![0, 0, 0] S1x512x2048.size inb_S1x512x2048_S1x512x2048_0_0_0,
      k0_pay3 (F := Ideal) gw gb (centred i x w g s E) (scaled i x w g s E)⟩]
    ∧ L9 = [⟨Rect.unit (s := S1x16x2048) ![0, 0, 0] S1x16x2048.size inb_S1x16x2048_S1x16x2048_0_0_0,
      k0_pay4 (F := Ideal) (fun j : S16x2048.Idx => at2 (α := EReal) (k0_pay8 (F := Ideal) x w) (496 + (j 0).val) (j 1).val)⟩]
    ∧ ∃ K, L = ⟨Rect.unit (s := S528x2048) ![0, 0] S16x2048.size inb_S528x2048_S16x2048_0_0,
      k0_pay5 (F := Ideal) (fun j : S16x2048.Idx => at2 (α := EReal) (k0_pay8 (F := Ideal) x w) (496 + (j 0).val) (j 1).val)⟩ :: K

/-- What is read back of the pieces a point stores. -/
structure Left (i : grid0.Coords) (x : Vec Ideal S1x512x2048 .f32) (w : Vec Ideal S2048x2048 .bf16) (g : Vec Ideal S4x512x512 .bf16)
    (s gw gb : Vec Ideal S1x2048 .f32) (E : S528x2048.Idx → EReal)
    (o7 o8 : S1x512x2048.Idx → EReal) (o9 : S1x16x2048.Idx → EReal) (o : S528x2048.Idx → EReal) : Prop where
  wide : ∀ y, o7 y = k0_pay1 (F := Ideal) gw gb (centred i x w g s E) (scaled i x w g s E) (ValueIdx.ix2 (y 1) (y 2))
  short : ∀ y, o8 y = k0_pay1 (F := Ideal) gw gb (centred i x w g s E) (scaled i x w g s E) (ValueIdx.ix2 (y 1) (y 2))
  tail : ∀ y, o9 y = at2 (α := EReal) (k0_pay8 (F := Ideal) x w) (496 + (y 1).val) (y 2).val
  carry : ∀ y, (y 0).val < 16 → o y = at2 (α := EReal) (k0_pay8 (F := Ideal) x w) (496 + (y 0).val) (y 1).val

theorem left_of_leaves (v7 : View sig .tc .vmem S1x512x2048 .f32) (v8 : View sig .tc .vmem S1x512x2048 .bf16)
    (v9 : View sig .tc .vmem S1x16x2048 .f32) (v : View sig .tc .vmem S528x2048 .f32) (f7 f8 f9 f)
    (i : grid0.Coords) (x : Vec Ideal S1x512x2048 .f32) (w : Vec Ideal S2048x2048 .bf16) (g : Vec Ideal S4x512x512 .bf16)
    (s gw gb : Vec Ideal S1x2048 .f32) (E : S528x2048.Idx → EReal) (L7 L8 L9 L) (h : Leaves i x w g s gw gb E L7 L8 L9 L) :
    Left i x w g s gw gb E (v7.read (Elt Ideal) (v7.writes (Elt Ideal) f7 L7)) (v8.read (Elt Ideal) (v8.writes (Elt Ideal) f8 L8))
      (v9.read (Elt Ideal) (v9.writes (Elt Ideal) f9 L9)) (v.read (Elt Ideal) (v.writes (Elt Ideal) f L)) := by
  obtain ⟨rfl, rfl, rfl, K, rfl⟩ := h
  refine ⟨fun y => ?_, fun y => ?_, fun y => ?_, fun y hy => ?_⟩
  · refine (store_whole v7 f7 ![0, 0, 0] (by decide) _ _ y).trans ?_
    unfold k0_pay2
    pointwise
    rfl
  · refine (store_whole v8 f8 ![0, 0, 0] (by decide) _ _ y).trans ?_
    unfold k0_pay3
    pointwise
    rfl
  · refine (store_whole v9 f9 ![0, 0, 0] (by decide) _ _ y).trans ?_
    unfold k0_pay4
    pointwise
  · have h1 : (y 1).val < 2048 := (y 1).isLt
    refine (View.read_writes_cons_hit_of_coords v f (Rect.unit (s := S528x2048) ![0, 0] S16x2048.size inb_S528x2048_S16x2048_0_0) _ _
      (ValueIdx.ix2 (⟨(y 0).val, hy⟩ : Fin 16) (⟨(y 1).val, h1⟩ : Fin 2048)) y (fun a => ?_)).trans (cast_tail _ _)
    match a with
    | ⟨0, _⟩ => show (y 0).val = 0 + 1 * (y 0).val; omega
    | ⟨1, _⟩ => change (y 1).val = 0 + 1 * (y 1).val; omega

end Cert.Pool
end
-- ==== Proof.PoolFirst.lean ====
/-
  What a point that starts a sequence leaves: its blocks of the results and its last rows.
-/
module

public import proofs.«01_k».proof.Proof.PoolTape

@[expose] public section

set_option maxRecDepth 16384
set_option maxHeartbeats 1000000

noncomputable section

namespace Cert.Pool

open Idealize.ShloMosaic Cert.PoolIdeal Cert.PoolIdeal.Gen Cert.Attn

variable (c : Dev nD) (i : grid0.Coords) (arg2 : Memref sig .tc .vmem S1x512x2048 .f32) (harg2 : arg2.IsWhole) (arg3 : Memref sig .tc .vmem S1x16x2048 .f32) (harg3 : arg3.IsWhole) (arg4 : Memref sig .tc .vmem S2048x2048 .bf16) (harg4 : arg4.IsWhole) (arg5 : Memref sig .tc .vmem S4x512x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x512x2048 .f32) (harg9 : arg9.IsWhole) (arg10 : Memref sig .tc .vmem S1x512x2048 .bf16) (harg10 : arg10.IsWhole) (arg11 : Memref sig .tc .vmem S1x16x2048 .f32) (harg11 : arg11.IsWhole) (arg12 : Memref sig .tc .vmem S528x2048 .f32) (harg12 : arg12.IsWhole)
    (x0 : Vec Ideal S1x512x2048 .f32) (x1 : Vec Ideal S1x16x2048 .f32) (x2 : Vec Ideal S2048x2048 .bf16) (x3 : Vec Ideal S4x512x512 .bf16) (x4 : Vec Ideal S1x2048 .f32) (x5 : Vec Ideal S1x2048 .f32) (x6 : Vec Ideal S1x2048 .f32) (xs0 : Vec Ideal S528x2048 .f32)

/-- The pieces of such a point. -/
theorem leaves_A (hc0 : cond0_0 i) :
    Leaves i x0 x2 x3 x4 x5 x6 (tape (fun r q => at3 (α := EReal) x1 0 r q) (k0_pay8 (F := Ideal) x0 x2))
      (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6).1
      (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6).2.1
      (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6).2.2.1
      (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6).2.2.2.1 := by
  unfold Leaves kernelRun0_A
  dsimp only
  simp only [kernelRun0_A.sl.HS0_2, kernelRun0_A.sl.r, kernelRun0_A.sl.r_1, kernelRun0_A.sl.r_10, kernelRun0_A.sl.r_11, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v0, kernelRun0_A.sl.v1, kernelRun0_A.sl.v101, kernelRun0_A.sl.v151, kernelRun0_A.sl.v2, kernelRun0_A.sl.v21, kernelRun0_A.sl.v33, kernelRun0_A.sl.v35, kernelRun0_A.sl.v37, kernelRun0_A.sl.v49, kernelRun0_A.sl.v51, kernelRun0_A.sl.v53, kernelRun0_A.sl.v55, kernelRun0_A.sl.v57, kernelRun0_A.sl.v59, kernelRun0_A.sl.v61, kernelRun0_A.sl.v73, kernelRun0_A.sl.v75, kernelRun0_A.sl.v77, kernelRun0_A.sl.v79, kernelRun0_A.sl.v81, kernelRun0_A.sl.v83, kernelRun0_A.sl.v85, kernelRun0_A.sl.v87, kernelRun0_A.sl.v89, kernelRun0_A.sl.v91, kernelRun0_A.sl.v93, kernelRun0_A.sl.v95, kernelRun0_A.sl.v97, kernelRun0_A.sl.v99, cast_scale, cast_shift,
    load_whole arg2 harg2 ![0, 0, 0] (by decide), load_whole arg3 harg3 ![0, 0, 0] (by decide), load_whole arg4 harg4 ![0, 0] (by decide),
    load_whole arg6 harg6 ![0, 0] (by decide), load_whole arg7 harg7 ![0, 0] (by decide), load_whole arg8 harg8 ![0, 0] (by decide),
    load_group arg5 harg5, cast_eq, View.readCov, load_tape arg12 _ _ (first_read arg12 _ (k0_pay8 (F := Ideal) x0 x2) x1 _ _),
    load_own arg12 _ (k0_pay8 (F := Ideal) x0 x2)]
  exact ⟨rfl, rfl, trivial, _, rfl⟩

theorem left_A (hc0 : cond0_0 i) :
    Left i x0 x2 x3 x4 x5 x6 (tape (fun r q => at3 (α := EReal) x1 0 r q) (k0_pay8 (F := Ideal) x0 x2))
      (out0_A_7 (F := Ideal) c i arg2 harg2 arg3 harg3 arg4 harg4 arg5 harg5 arg6 harg6 arg7 harg7 arg8 harg8 arg9 harg9 arg10 harg10 arg11 harg11 arg12 harg12 hc0 x0 x1 x2 x3 x4 x5 x6)
      (out0_A_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6)
      (out0_A_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6)
      (sout0_A_0 (F := Ideal) c i arg2 harg2 arg3 harg3 arg4 harg4 arg5 harg5 arg6 harg6 arg7 harg7 arg8 harg8 arg9 harg9 arg10 harg10 arg11 harg11 arg12 harg12 hc0 x0 x1 x2 x3 x4 x5 x6) :=
  left_of_leaves _ _ _ _ _ _ _ _ _ _ _ _ _ _ _ _ _ _ _ _ (leaves_A c i arg2 harg2 arg3 harg3 arg4 harg4 arg5 harg5 arg6 harg6 arg7 harg7 arg8 harg8 arg9 harg9 arg10 harg10 arg11 harg11 arg12 harg12 x0 x1 x2 x3 x4 x5 x6 hc0)

end Cert.Pool
end
-- ==== Proof.PoolNext.lean ====
/-
  What a later point leaves, from the rows the point before left.
-/
module

public import proofs.«01_k».proof.Proof.PoolTape

@[expose] public section

set_option maxRecDepth 16384
set_option maxHeartbeats 1000000

noncomputable section

namespace Cert.Pool

open Idealize.ShloMosaic Cert.PoolIdeal Cert.PoolIdeal.Gen Cert.Attn

variable (c : Dev nD) (i : grid0.Coords) (arg2 : Memref sig .tc .vmem S1x512x2048 .f32) (harg2 : arg2.IsWhole) (arg3 : Memref sig .tc .vmem S1x16x2048 .f32) (harg3 : arg3.IsWhole) (arg4 : Memref sig .tc .vmem S2048x2048 .bf16) (harg4 : arg4.IsWhole) (arg5 : Memref sig .tc .vmem S4x512x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x512x2048 .f32) (harg9 : arg9.IsWhole) (arg10 : Memref sig .tc .vmem S1x512x2048 .bf16) (harg10 : arg10.IsWhole) (arg11 : Memref sig .tc .vmem S1x16x2048 .f32) (harg11 : arg11.IsWhole) (arg12 : Memref sig .tc .vmem S528x2048 .f32) (harg12 : arg12.IsWhole)
    (x0 : Vec Ideal S1x512x2048 .f32) (x1 : Vec Ideal S1x16x2048 .f32) (x2 : Vec Ideal S2048x2048 .bf16) (x3 : Vec Ideal S4x512x512 .bf16) (x4 : Vec Ideal S1x2048 .f32) (x5 : Vec Ideal S1x2048 .f32) (x6 : Vec Ideal S1x2048 .f32) (xs0 : Vec Ideal S528x2048 .f32)

/-- The pieces of such a point. -/
theorem leaves_B (hc0 : ¬cond0_0 i) :
    Leaves i x0 x2 x3 x4 x5 x6 (tape (fun r q => at2 (α := EReal) xs0 r q) (k0_pay8 (F := Ideal) x0 x2))
      (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0).1
      (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0).2.1
      (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0).2.2.1
      (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0).2.2.2.1 := by
  unfold Leaves kernelRun0_B
  dsimp only
  simp only [kernelRun0_B.sl.HS0_1, kernelRun0_B.sl.r, kernelRun0_B.sl.r_1, kernelRun0_B.sl.r_10, kernelRun0_B.sl.r_11, kernelRun0_B.sl.r_12, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v0, kernelRun0_B.sl.v1, kernelRun0_B.sl.v151, kernelRun0_B.sl.v2, cast_scale, cast_shift,
    load_whole arg2 harg2 ![0, 0, 0] (by decide), load_whole arg3 harg3 ![0, 0, 0] (by decide), load_whole arg4 harg4 ![0, 0] (by decide),
    load_whole arg6 harg6 ![0, 0] (by decide), load_whole arg7 harg7 ![0, 0] (by decide), load_whole arg8 harg8 ![0, 0] (by decide),
    load_group arg5 harg5, cast_eq, View.readCov, load_tape arg12 _ _ (next_read arg12 harg12 xs0 (k0_pay8 (F := Ideal) x0 x2) _),
    load_own arg12 _ (k0_pay8 (F := Ideal) x0 x2)]
  exact ⟨rfl, rfl, trivial, _, rfl⟩

theorem left_B (hc0 : ¬cond0_0 i) :
    Left i x0 x2 x3 x4 x5 x6 (tape (fun r q => at2 (α := EReal) xs0 r q) (k0_pay8 (F := Ideal) x0 x2))
      (out0_B_7 (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0)
      (out0_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0)
      (out0_B_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0)
      (sout0_B_0 (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0) :=
  left_of_leaves _ _ _ _ _ _ _ _ _ _ _ _ _ _ _ _ _ _ _ _ (leaves_B c i arg2 harg2 arg3 harg3 arg4 harg4 arg5 harg5 arg6 harg6 arg7 harg7 arg8 harg8 arg9 harg9 arg10 harg10 arg11 harg11 arg12 harg12 x0 x1 x2 x3 x4 x5 x6 xs0 hc0)

end Cert.Pool
end
-- ==== Proof.PoolSum.lean ====
/-
  The pooling mixer's block, entry by entry: windows, groups and the row that is normed.
-/
module

public import proofs.«01_k».proof.Proof.PoolTape

@[expose] public section

set_option maxRecDepth 16384
set_option maxHeartbeats 1000000

noncomputable section

namespace Cert.Pool

open Idealize.ShloMosaic Cert.PoolIdeal Cert.PoolIdeal.Gen Cert.Attn
open scoped BigOperators

/-- How many rows a window of `w` holds at position `p` of a sequence. -/
def count (w p : ℕ) : EReal := (((min w (p + 1) : ℕ) : ℝ) : EReal)

/-- A window's mean less its newest row; `T d` is the row `d` places back. -/
def lift (T : ℕ → EReal) (w p : ℕ) : EReal := Ideal.div (∑ d : Fin w, T d.val) (count w p) - T 0

/-- One group of the mixer at one place: the lifted rows of its 512 columns through its square weights. -/
def group (T : ℕ → ℕ → EReal) (G : S4x512x512.Idx → EReal) (p n q : ℕ) : EReal :=
  ∑ k : Fin 512, lift (fun d => T d (512 * n + k.val)) (2 ^ (n + 1)) p * at3 G n k.val q

/-- One entry before the norm. -/
def mixed (X : ℕ → EReal) (T : ℕ → ℕ → EReal) (G : S4x512x512.Idx → EReal) (s : ℕ → EReal) (p q : ℕ) : EReal :=
  Ideal.ofBits .f32 0x3FB504F3#32 * X q + group T G p (q / 512) (q % 512) * s q

/-- A row normed, at one of its places. -/
def normed (z : Fin 2048 → EReal) (q : Fin 2048) (g b : EReal) : EReal :=
  (z q - Ideal.div (∑ k, z k) (Ideal.ofBits .f32 0x45000000#32))
    * Ideal.rsqrt (Ideal.div (∑ k, (z k - Ideal.div (∑ k, z k) (Ideal.ofBits .f32 0x45000000#32))
        * (z k - Ideal.div (∑ k, z k) (Ideal.ofBits .f32 0x45000000#32))) (Ideal.ofBits .f32 0x45000000#32)
        + Ideal.ofBits .f32 0x3727C5AC#32) * g + b

/-- A group's sum, from its four parts at each of its columns: the window's sum, its count, the newest row and the weight. -/
theorem group_sum (T : ℕ → ℕ → EReal) (G : S4x512x512.Idx → EReal) (p n q w : ℕ) (hw : w = 2 ^ (n + 1)) (A C O B : Fin 512 → EReal)
    (hA : ∀ k, A k = ∑ d : Fin w, T d.val (512 * n + k.val)) (hC : ∀ k, C k = count w p)
    (hO : ∀ k, O k = T 0 (512 * n + k.val)) (hB : ∀ k, B k = at3 G n k.val q) :
    (∑ k, (Ideal.div (A k) (C k) - O k) * B k) = group T G p n q := by
  subst hw
  unfold group lift
  exact Finset.sum_congr rfl fun k _ => by rw [hA, hC, hO, hB]

/-- Terms added one after the other, from the first. -/
def chain (T : ℕ → EReal) (z : EReal) : ℕ → EReal
  | 0 => z
  | n + 1 => chain T z n + T (n + 1)

theorem chain_eq (T : ℕ → EReal) (z : EReal) (h : z = T 0) (n : ℕ) : chain T z n = ∑ d : Fin (n + 1), T d.val := by
  induction n with
  | zero => simp [chain, h]
  | succ n ih =>
    rw [Fin.sum_univ_castSucc]
    exact congrArg (· + T (n + 1)) ih

/-- The words of the windows' lengths. -/
theorem length_words : Ideal.ofBits .f32 0x40000000#32 = (((2 : ℕ) : ℝ) : EReal) ∧ Ideal.ofBits .f32 0x40800000#32 = (((4 : ℕ) : ℝ) : EReal)
    ∧ Ideal.ofBits .f32 0x41000000#32 = (((8 : ℕ) : ℝ) : EReal) ∧ Ideal.ofBits .f32 0x41800000#32 = (((16 : ℕ) : ℝ) : EReal) := by
  refine ⟨?_, ?_, ?_, ?_⟩
  all_goals
    simp [Idealize.ShloMosaic.Ideal.ofBits, Idealize.ShloMosaic.Ideal.ieee]
    rw [← EReal.coe_mul]
    norm_num

/-- The smaller of a window's length and the position's number, taken among numbers. -/
theorem count_eq {a b : EReal} (w p : ℕ) (ha : a = ((w : ℝ) : EReal)) (hb : b = (((p + 1 : ℕ) : ℝ) : EReal)) : min a b = count w p := by
  rw [ha, hb]
  unfold count
  rw [Nat.cast_min]
  exact (EReal.coe_strictMono.monotone.map_min).symm

/-- The last group's product, as the kernel forms it before the four are put side by side. -/
def last (v8 : FVec Ideal S512x2048 .f32) (v19 v98 v99 v101 : FVec Ideal S512x512 .f32) (v109 : FVec Ideal S1x512x512 .bf16) : S512x512.Idx → EReal :=
  have v100 : FVec Ideal S512x512 .f32 := addf v98 v99
  have v102 : FVec Ideal S512x512 .f32 := addf v100 v101
  have cst_56 : Ideal .f32 := Scalar.ofBits .f32 0x41800000#32
  have v103 : FVec Ideal S512x512 .f32 := broadcast S512x512 cst_56
  have v104 : FVec Ideal S512x512 .f32 := minimumf v103 v19
  have v105 : FVec Ideal S512x512 .f32 := divf v102 v104
  have v106 : FVec Ideal S512x512 .f32 := extractStridedSlice S512x512 ![0, 1536] v8 slices_S512x2048_o0_1536_S512x512
  have v107 : FVec Ideal S512x512 .f32 := subf v105 v106
  have v108 : FVec Ideal S512x512 .bf16 := truncf .bf16 v107 bitsLt_bf16_f32
  have v110 : FVec Ideal S512x512 .bf16 := shapeCast S512x512 v109 shapeCasts_S1x512x512_S512x512
  have cst_60 : FVec Ideal S512x512 .f32 := constant S512x512 .f32 0x00000000#32
  matmul dot_S512x512_S512x512_S512x512_1_0_0_1_n_n none v108 v110 cst_60

/-- The rows before the norm, as the kernel forms them. -/
def row (v4 : FVec Ideal S512x2048 .f32) (v31 v47 v71 v111 : FVec Ideal S512x512 .f32) (v113 : FVec Ideal S1x2048 .f32) : S512x2048.Idx → EReal :=
  have v112 : FVec Ideal S512x2048 .f32 := concatenate S512x2048 1 [⟨S512x512, v31⟩, ⟨S512x512, v47⟩, ⟨S512x512, v71⟩, ⟨S512x512, v111⟩] concatenates_S512x512_S512x512_S512x512_S512x512_S512x2048_d1
  have v114 : FVec Ideal S1x2048 .f32 := shapeCast S1x2048 v113 shapeCasts_S1x2048_S1x2048
  have v115 : FVec Ideal S512x2048 .f32 := broadcastTo S512x2048 v114 broadcasts_S1x2048_S512x2048
  have v116 : FVec Ideal S512x2048 .f32 := mulf v112 v115
  have cst_63 : Ideal .f32 := Scalar.ofBits .f32 0x3FB504F3#32
  have v117 : FVec Ideal S512x2048 .f32 := broadcast S512x2048 cst_63
  have v118 : FVec Ideal S512x2048 .f32 := mulf v117 v4
  addf v118 v116

/-- Rows less their mean. -/
def centre (v119 : FVec Ideal S512x2048 .f32) : S512x2048.Idx → EReal :=
  have v124 : FVec Ideal S512 .f32 := multiReduction .add [1] S512 v119 0x00000000#32 reduces_S512x2048_S512 (.inl rfl) rfl
  have v125 : FVec Ideal S512x1 .f32 := shapeCast S512x1 v124 shapeCasts_S512_S512x1
  have cst_69 : Ideal .f32 := Scalar.ofBits .f32 0x45000000#32
  have v126 : FVec Ideal S512x1 .f32 := broadcast S512x1 cst_69
  have v127 : FVec Ideal S512x1 .f32 := divf v125 v126
  have v128 : FVec Ideal S512x2048 .f32 := broadcastTo S512x2048 v127 broadcasts_S512x1_S512x2048
  subf v119 v128

/-- The reciprocal of the deviation of rows that are less their mean. -/
def deviation (v129 : FVec Ideal S512x2048 .f32) : S512x2048.Idx → EReal :=
  have v130 : FVec Ideal S512x2048 .f32 := mulf v129 v129
  have v131 : FVec Ideal S512 .f32 := multiReduction .add [1] S512 v130 0x00000000#32 reduces_S512x2048_S512 (.inl rfl) rfl
  have v132 : FVec Ideal S512x1 .f32 := shapeCast S512x1 v131 shapeCasts_S512_S512x1
  have cst_71 : Ideal .f32 := Scalar.ofBits .f32 0x45000000#32
  have v133 : FVec Ideal S512x1 .f32 := broadcast S512x1 cst_71
  have v134 : FVec Ideal S512x1 .f32 := divf v132 v133
  have cst_72 : Ideal .f32 := Scalar.ofBits .f32 0x3727C5AC#32
  have v135 : FVec Ideal S512x1 .f32 := broadcast S512x1 cst_72
  have v136 : FVec Ideal S512x1 .f32 := addf v134 v135
  have v137 : FVec Ideal S512x1 .f32 := rsqrt v136
  broadcastTo S512x2048 v137 broadcasts_S512x1_S512x2048

theorem norm_apply (Z : S512x2048.Idx → EReal) (g b : S1x2048.Idx → EReal) (r : Fin 512) (q : Fin 2048) :
    k0_pay1 (F := Ideal) g b (centre Z) (deviation (centre Z)) (ValueIdx.ix2 r q)
      = normed (fun k => Z (ValueIdx.ix2 r k)) q (g (ValueIdx.ix2 0 q)) (b (ValueIdx.ix2 0 q)) := by
  unfold k0_pay1 deviation centre normed
  pointwise
  rfl

theorem pick (f : ℕ → Fin 512 → EReal) {a a' : ℕ} {b b' : Fin 512} (ha : a = a') (hb : b.val = b'.val) : f a b = f a' b' := by
  rw [ha, Fin.ext hb]

theorem row_apply (v4 : S512x2048.Idx → EReal) (a b c d : S512x512.Idx → EReal) (s : S1x2048.Idx → EReal) (f : ℕ → Fin 512 → EReal)
    (r : Fin 512) (ha : ∀ q, a (ValueIdx.ix2 r q) = f 0 q) (hb : ∀ q, b (ValueIdx.ix2 r q) = f 1 q)
    (hc : ∀ q, c (ValueIdx.ix2 r q) = f 2 q) (hd : ∀ q, d (ValueIdx.ix2 r q) = f 3 q) (q : Fin 2048) :
    row v4 a b c d s (ValueIdx.ix2 r q)
      = Ideal.ofBits .f32 0x3FB504F3#32 * v4 (ValueIdx.ix2 r q)
        + f (q.val / 512) (⟨q.val % 512, Nat.mod_lt _ (by decide)⟩ : Fin 512) * s (ValueIdx.ix2 0 q) := by
  unfold row
  pointwise
  refine congrArg₂ (· + ·) rfl (congrArg₂ (· * ·) ?_ rfl)
  have hq : q.val < 2048 := q.isLt
  by_cases h0 : q.val < 512
  · rw [dif_pos h0]
    refine (ha _).trans (pick f ?_ ?_)
    · omega
    · show q.val = q.val % 512; omega
  rw [dif_neg h0]
  by_cases h1 : q.val - 512 < 512
  · rw [dif_pos h1]
    refine (hb _).trans (pick f ?_ ?_)
    · omega
    · show q.val - 512 = q.val % 512; omega
  rw [dif_neg h1]
  by_cases h2 : q.val - 512 - 512 < 512
  · rw [dif_pos h2]
    refine (hc _).trans (pick f ?_ ?_)
    · omega
    · show q.val - 512 - 512 = q.val % 512; omega
  rw [dif_neg h2]
  refine (hd _).trans (pick f ?_ ?_)
  · omega
  · show q.val - 512 - 512 - 512 = q.val % 512; omega

variable (i : grid0.Coords) (x : Vec Ideal S1x512x2048 .f32) (w : Vec Ideal S2048x2048 .bf16)

/-- The position's number at a row of the block. -/
theorem number_apply (j : S512x512.Idx) :
    k0_pay10 (F := Ideal) i j = (((512 * (i 1).val + (j 0).val + 1 : ℕ) : ℝ) : EReal) := by
  unfold k0_pay10
  pointwise
  have h0 : (j 0).val < 512 := (j 0).isLt
  have h1 : (i 1).val < 16 := (i 1).isLt
  have e : IntOp.addi (IntOp.addi (Scalar.addi (0#32) (Scalar.muli (BitVec.ofNat 32 (i 1).val) 512#32)) (BitVec.ofNat 32 (j 0).val)) 1#32
      = BitVec.ofNat 32 (512 * (i 1).val + (j 0).val + 1) := by
    apply BitVec.eq_of_toNat_eq
    simp only [IntOp.addi, Scalar.addi, Scalar.muli, IntOp.muli, BitVec.toNat_add, BitVec.toNat_mul, BitVec.toNat_ofNat]
    omega
  rw [e]
  show (((BitVec.ofNat 32 (512 * (i 1).val + (j 0).val + 1)).toInt : ℝ) : EReal) = _
  rw [BitVec.toInt_eq_toNat_of_lt (by rw [BitVec.toNat_ofNat]; omega), BitVec.toNat_ofNat, Nat.mod_eq_of_lt (by omega)]
  norm_cast

variable (E : S528x2048.Idx → EReal)
  (hE : ∀ r q : ℕ, r < 512 → q < 2048 → at2 (k0_pay8 (F := Ideal) x w : S512x2048.Idx → EReal) r q = at2 E (r + 16) q)
include hE

/-- The newest row of a window is the block's own. -/
theorem own_at (r : Fin 512) (a b : ℕ) (h : a < 2048) (e : a = b) :
    (k0_pay8 (F := Ideal) x w : S512x2048.Idx → EReal) (ValueIdx.ix2 r (⟨a, h⟩ : Fin 2048)) = at2 E (r.val + 16 - 0) b := by
  subst e
  exact (eq_at2 _ _ _ _ rfl rfl).trans (hE r.val a r.isLt h)

theorem group_0 (g : S4x512x512.Idx → EReal) (r q : Fin 512) :
    k0_pay11 (F := Ideal) i x w (ld E 15 0) (ldG g 0) (ValueIdx.ix2 r q)
      = group (fun d a => at2 E (r.val + 16 - d) a) g (512 * (i 1).val + r.val) 0 q.val := by
  unfold k0_pay11
  pointwise
  exact group_sum _ g _ 0 _ 2 rfl _ _ _ _ (fun k => chain_eq (fun d => at2 E (r.val + 16 - d) (512 * 0 + k.val)) _ (own_at x w E hE r _ _ _ (Nat.zero_add _).symm) 1)
    (fun k => count_eq 2 _ length_words.1 (number_apply i _)) (fun k => own_at x w E hE r _ _ _ (Nat.zero_add _).symm) fun k => rfl

theorem group_1 (g : S4x512x512.Idx → EReal) (r q : Fin 512) :
    k0_pay13 (F := Ideal) (k0_pay8 (F := Ideal) x w) (k0_pay10 (F := Ideal) i) (k0_pay12 (F := Ideal) x w) (ld E 15 512) (ld E 14 512) (ld E 13 512) (ldG g 1) (ValueIdx.ix2 r q)
      = group (fun d a => at2 E (r.val + 16 - d) a) g (512 * (i 1).val + r.val) 1 q.val := by
  unfold k0_pay13 k0_pay12
  pointwise
  exact group_sum _ g _ 1 _ 4 rfl _ _ _ _ (fun k => chain_eq (fun d => at2 E (r.val + 16 - d) (512 * 1 + k.val)) _ (own_at x w E hE r _ _ _ rfl) 3)
    (fun k => count_eq 4 _ length_words.2.1 (number_apply i _)) (fun k => own_at x w E hE r _ _ _ rfl) fun k => rfl

theorem group_2 (g : S4x512x512.Idx → EReal) (r q : Fin 512) :
    k0_pay15 (F := Ideal) (k0_pay14 (F := Ideal) (k0_pay8 (F := Ideal) x w) (k0_pay10 (F := Ideal) i) (ld E 15 1024) (ld E 14 1024) (ld E 13 1024) (ld E 12 1024) (ld E 11 1024) (ld E 10 1024) (ld E 9 1024)) (ldG g 2) (ValueIdx.ix2 r q)
      = group (fun d a => at2 E (r.val + 16 - d) a) g (512 * (i 1).val + r.val) 2 q.val := by
  unfold k0_pay15 k0_pay14
  pointwise
  exact group_sum _ g _ 2 _ 8 rfl _ _ _ _ (fun k => chain_eq (fun d => at2 E (r.val + 16 - d) (512 * 2 + k.val)) _ (own_at x w E hE r _ _ _ rfl) 7)
    (fun k => count_eq 8 _ length_words.2.2.1 (number_apply i _)) (fun k => own_at x w E hE r _ _ _ rfl) fun k => rfl

theorem group_3 (g : S4x512x512.Idx → EReal) (r q : Fin 512) :
    last (k0_pay8 (F := Ideal) x w) (k0_pay10 (F := Ideal) i) (k0_pay16 (F := Ideal) (k0_pay8 (F := Ideal) x w) (ld E 15 1536) (ld E 14 1536) (ld E 13 1536) (ld E 12 1536) (ld E 11 1536) (ld E 10 1536) (ld E 9 1536) (ld E 8 1536) (ld E 7 1536) (ld E 6 1536) (ld E 5 1536) (ld E 4 1536) (ld E 3 1536)) (ld E 2 1536) (ld E 1 1536) (ldG g 3) (ValueIdx.ix2 r q)
      = group (fun d a => at2 E (r.val + 16 - d) a) g (512 * (i 1).val + r.val) 3 q.val := by
  unfold last k0_pay16
  pointwise
  exact group_sum _ g _ 3 _ 16 rfl _ _ _ _ (fun k => chain_eq (fun d => at2 E (r.val + 16 - d) (512 * 3 + k.val)) _ (own_at x w E hE r _ _ _ rfl) 15)
    (fun k => count_eq 16 _ length_words.2.2.2 (number_apply i _)) (fun k => own_at x w E hE r _ _ _ rfl) fun k => rfl

/-- The block's rows before the norm. -/
def rows (g : S4x512x512.Idx → EReal) (s : S1x2048.Idx → EReal) : S512x2048.Idx → EReal :=
  row (k0_pay7 (F := Ideal) x) (k0_pay11 (F := Ideal) i x w (ld E 15 0) (ldG g 0)) (k0_pay13 (F := Ideal) (k0_pay8 (F := Ideal) x w) (k0_pay10 (F := Ideal) i) (k0_pay12 (F := Ideal) x w) (ld E 15 512) (ld E 14 512) (ld E 13 512) (ldG g 1)) (k0_pay15 (F := Ideal) (k0_pay14 (F := Ideal) (k0_pay8 (F := Ideal) x w) (k0_pay10 (F := Ideal) i) (ld E 15 1024) (ld E 14 1024) (ld E 13 1024) (ld E 12 1024) (ld E 11 1024) (ld E 10 1024) (ld E 9 1024)) (ldG g 2)) (last (k0_pay8 (F := Ideal) x w) (k0_pay10 (F := Ideal) i) (k0_pay16 (F := Ideal) (k0_pay8 (F := Ideal) x w) (ld E 15 1536) (ld E 14 1536) (ld E 13 1536) (ld E 12 1536) (ld E 11 1536) (ld E 10 1536) (ld E 9 1536) (ld E 8 1536) (ld E 7 1536) (ld E 6 1536) (ld E 5 1536) (ld E 4 1536) (ld E 3 1536)) (ld E 2 1536) (ld E 1 1536) (ldG g 3)) s

omit hE in
theorem centred_eq (g : S4x512x512.Idx → EReal) (s : S1x2048.Idx → EReal) :
    centred i x w g s E = centre (rows i x w E g s) := rfl

omit hE in
theorem scaled_eq (g : S4x512x512.Idx → EReal) (s : S1x2048.Idx → EReal) :
    scaled i x w g s E = deviation (centre (rows i x w E g s)) := rfl

theorem rows_apply (g : S4x512x512.Idx → EReal) (s : S1x2048.Idx → EReal) (r : Fin 512) (q : Fin 2048) :
    rows i x w E g s (ValueIdx.ix2 r q)
      = mixed (fun a => at3 (α := EReal) x 0 r.val a) (fun d a => at2 E (r.val + 16 - d) a) g (fun a => at2 s 0 a) (512 * (i 1).val + r.val) q.val := by
  unfold rows mixed
  refine (row_apply _ _ _ _ _ s (fun n q => group (fun d a => at2 E (r.val + 16 - d) a) g (512 * (i 1).val + r.val) n q.val) r
    (fun q => group_0 i x w E hE g r q) (fun q => group_1 i x w E hE g r q) (fun q => group_2 i x w E hE g r q)
    (fun q => group_3 i x w E hE g r q) q).trans ?_
  refine congrArg₂ (· + ·) (congrArg₂ (· * ·) rfl ?_) (congrArg₂ (· * ·) rfl ?_)
  · unfold k0_pay7
    pointwise
    exact eq_at3 _ _ _ _ _ rfl rfl rfl
  · exact eq_at2 _ _ _ _ rfl rfl

/-- The block's normed entry. -/
theorem block_apply (g : S4x512x512.Idx → EReal) (s gw gb : S1x2048.Idx → EReal) (r : Fin 512) (q : Fin 2048) :
    k0_pay1 (F := Ideal) gw gb (centred i x w g s E) (scaled i x w g s E) (ValueIdx.ix2 r q)
      = normed (fun k => mixed (fun a => at3 (α := EReal) x 0 r.val a) (fun d a => at2 E (r.val + 16 - d) a) g (fun a => at2 s 0 a)
          (512 * (i 1).val + r.val) k.val) q (gw (ValueIdx.ix2 0 q)) (gb (ValueIdx.ix2 0 q)) := by
  rw [centred_eq, scaled_eq]
  refine (norm_apply _ gw gb r q).trans ?_
  congr 1
  exact funext fun k => rows_apply i x w E hE g s r k

end Cert.Pool
end
-- ==== Proof.PoolRef.lean ====
/-
  The reference's pooling mixer, entry by entry: its words, its gathered windows, its groups and its norm.
-/
module

public import proofs.«01_k».proof.Proof.Gen.PoolRefIdeal.Read
public import proofs.«01_k».proof.Proof.PoolSum
public import Idealize.ShloMosaic.Lib.KernelVsHost

@[expose] public section

set_option maxRecDepth 16384
set_option maxHeartbeats 1000000

noncomputable section

namespace Cert.Pool

open Idealize.ShloMosaic Cert.PoolRefIdeal Cert.PoolRefIdeal.Gen Cert.PoolRefIdeal.Read Cert.Attn
open scoped BigOperators

/-- Row `p - d` of batch `b`, or 0 before the first. -/
def past (u : S4x8192x2048.Idx → EReal) (b p d a : ℕ) : EReal := if d ≤ p then at3 u b (p - d) a else 0

theorem past_words : ∀ a : Fin 8207,
    (Scalar.select (IntOp.cmpi .slt (BitVec.ofNat 32 a.val) 0#32) (IntOp.addi (BitVec.ofNat 32 a.val) 8207#32)
      (BitVec.ofNat 32 a.val)).toInt.toNat = a.val := by
  decide +kernel

/-- The word of the row `d` back of position `p`, counted past 15 rows of padding. -/
theorem past_word (p d : ℕ) (hp : p < 8192) (hd : d < 16) :
    IntOp.subi (IntOp.addi 15#32 (BitVec.ofNat 32 p)) (BitVec.ofNat 32 d) = BitVec.ofNat 32 (15 + p - d) := by
  apply BitVec.eq_of_toNat_eq
  simp only [IntOp.subi, IntOp.addi, BitVec.toNat_sub, BitVec.toNat_add, BitVec.toNat_ofNat]
  omega

theorem past_select (p d : ℕ) (hp : p < 8192) (hd : d < 16) :
    (Scalar.select (IntOp.cmpi .slt (IntOp.subi (IntOp.addi 15#32 (BitVec.ofNat 32 p)) (BitVec.ofNat 32 d)) 0#32)
      (IntOp.addi (IntOp.subi (IntOp.addi 15#32 (BitVec.ofNat 32 p)) (BitVec.ofNat 32 d)) 8207#32)
      (IntOp.subi (IntOp.addi 15#32 (BitVec.ofNat 32 p)) (BitVec.ofNat 32 d))).toInt.toNat = 15 + p - d := by
  rw [past_word p d hp hd]
  exact past_words (⟨15 + p - d, by omega⟩ : Fin 8207)

theorem zero_word : (FloatOps.sitofp .f32 (0#32) : Ideal .f32) = (0 : EReal) := by
  show ((_ : ℝ) : EReal) = 0
  simp

theorem zero_bits : Ideal.ofBits .f32 0x00000000#32 = (0 : EReal) := by
  simp [Idealize.ShloMosaic.Ideal.ofBits, Idealize.ShloMosaic.Ideal.ieee]

/-- The padded rows at a row: 15 of zeros, then the array's. -/
theorem padded (x0 : FVec Ideal S4x8192x2048 .f32) (x1 : FVec Ideal S2048x2048 .f32) (b : Fin 4) (n : Fin 8207) (q : Fin 2048) :
    val_main_v1 (F := Ideal) x0 x1 (ValueIdx.ix3 b n q)
      = if hn : 15 ≤ n.val then val_main_v0 (F := Ideal) x0 x1 (ValueIdx.ix3 b (⟨n.val - 15, by omega⟩ : Fin 8192) q) else (0 : EReal) := by
  unfold val_main_v1
  generalize val_main_v0 (F := Ideal) x0 x1 = u
  split_ifs with hn
  · refine pad_apply_of_inside _ _ _ _ _ _ _ _ _ fun a => ?_
    match a with
    | ⟨0, _⟩ => show b.val = 0 + b.val * 1; omega
    | ⟨1, _⟩ => show n.val = 15 + (n.val - 15) * 1; omega
    | ⟨2, _⟩ => show q.val = 0 + q.val * 1; omega
  · refine (pad_apply_of_not_inside _ _ _ _ _ _ _ _ 1 fun hk => hn hk.1).trans ?_
    exact zero_word

theorem padded_past (x0 : FVec Ideal S4x8192x2048 .f32) (x1 : FVec Ideal S2048x2048 .f32) (i : S4x8207x2048.Idx) (b p d a : ℕ)
    (h0 : (i 0).val = b) (h1 : (i 1).val = 15 + p - d) (hd : d < 16) (h2 : (i 2).val = a) :
    val_main_v1 (F := Ideal) x0 x1 i = past (val_main_v0 (F := Ideal) x0 x1) b p d a := by
  have hi : i = ValueIdx.ix3 (i 0) (i 1) (i 2) := funext fun a => match a with | ⟨0, _⟩ => rfl | ⟨1, _⟩ => rfl | ⟨2, _⟩ => rfl
  rw [hi]
  refine (padded x0 x1 _ _ _).trans ?_
  unfold past
  by_cases h : d ≤ p
  · rw [if_pos h]
    have hn : 15 ≤ (i 1).val := by omega
    rw [dif_pos hn]
    refine eq_at3 _ _ _ _ _ h0 ?_ h2
    show (i 1).val - 15 = p - d
    omega
  · rw [if_neg h]
    have hn : ¬ 15 ≤ (i 1).val := by omega
    rw [dif_neg hn]

/-- A gather along the rows, whatever the window's length: its settings. -/
def IsRows {w : ℕ} (g : GatherDims S4x8207x512 ⟨3, ![8192, w, 1]⟩ ⟨4, ![4, 8192, w, 512]⟩) : Prop :=
  g.offsetDims = [0, 3] ∧ g.collapsedSliceDims = [1] ∧ g.operandBatchingDims = [] ∧ g.startIndicesBatchingDims = []
    ∧ g.startIndexMap = [1] ∧ g.indexVectorDim = 2 ∧ g.sliceSizes = ![4, 1, 512]

theorem gather_rows {α : Type} {w : ℕ} (g : GatherDims S4x8207x512 ⟨3, ![8192, w, 1]⟩ ⟨4, ![4, 8192, w, 512]⟩) (hg : IsRows g)
    (x : S4x8207x512.Idx → α) (W : IVec ⟨3, ![8192, w, 1]⟩ 32) (i : (⟨4, ![4, 8192, w, 512]⟩ : Shape).Idx)
    (n : Fin 8207) (h : (W (ValueIdx.ix3 (i 1) (i 2) (0 : Fin 1))).toInt.toNat = n.val) :
    Host.gather g x W i = x (ValueIdx.ix3 (i 0) n (i 3)) := by
  obtain ⟨o, cs, ob, sb, sm, iv, ss, wf⟩ := g
  obtain ⟨h1, h2, h3, h4, h5, h6, h7⟩ := hg
  dsimp only at h1 h2 h3 h4 h5 h6 h7
  subst h1 h2 h3 h4 h5 h6 h7
  refine congrArg x (funext fun a => Fin.ext ?_)
  match a with
  | ⟨0, _⟩ => exact Nat.zero_add _
  | ⟨1, _⟩ =>
    have e : (W (GatherDims.siIdx (⟨[0, 3], [1], [], [], [1], 2, ![4, 1, 512], wf⟩ : GatherDims S4x8207x512 ⟨3, ![8192, w, 1]⟩ ⟨4, ![4, 8192, w, 512]⟩) i
        ⟨0, Nat.one_pos⟩)).toInt.toNat = n.val :=
      Eq.trans (congrArg (fun z : (⟨3, ![8192, w, 1]⟩ : Shape).Idx => (W z).toInt.toNat)
        (show _ = ValueIdx.ix3 (i 1) (i 2) (0 : Fin 1) from
          funext fun a => match a with | ⟨0, _⟩ => rfl | ⟨1, _⟩ => rfl | ⟨2, _⟩ => rfl)) h
    have hn := n.isLt
    refine Eq.trans (congrArg (fun z : ℕ => min z 8206 + 0 + 0) e) ?_
    show min n.val 8206 + 0 + 0 = n.val
    omega
  | ⟨2, _⟩ => exact Nat.zero_add _

/-- The word of a window's count of rows. -/
theorem count_word (w p : ℕ) (hw : w ≤ 16) (hp : p < 8192) :
    (IntOp.minsi (BitVec.ofNat 32 w) (IntOp.addi (BitVec.ofNat 32 p) 1#32)).toInt = ((min w (p + 1) : ℕ) : ℤ) := by
  have e1 : (BitVec.ofNat 32 w).toInt = (w : ℤ) := by
    rw [BitVec.toInt_eq_toNat_of_lt (by rw [BitVec.toNat_ofNat]; omega), BitVec.toNat_ofNat, Nat.mod_eq_of_lt (by omega)]
  have e2 : (IntOp.addi (BitVec.ofNat 32 p) 1#32).toInt = ((p + 1 : ℕ) : ℤ) := by
    have e : IntOp.addi (BitVec.ofNat 32 p) 1#32 = BitVec.ofNat 32 (p + 1) := by
      apply BitVec.eq_of_toNat_eq
      simp only [IntOp.addi, BitVec.toNat_add, BitVec.toNat_ofNat]
      omega
    rw [e, BitVec.toInt_eq_toNat_of_lt (by rw [BitVec.toNat_ofNat]; omega), BitVec.toNat_ofNat, Nat.mod_eq_of_lt (by omega)]
  unfold IntOp.minsi
  simp only [BitVec.sle, BitVec.slt, e1, e2]
  split_ifs with h
  · rw [e1]
    have := of_decide_eq_true h
    omega
  · rw [e2]
    have := of_decide_eq_false (Bool.eq_false_iff.2 h)
    omega

/-- A group of the reference, from what it gathers: the windows' words, the columns it slices and the weights it takes. -/
theorem group_of_gather {w n : ℕ} (hw : w = 2 ^ (n + 1)) (h16 : w ≤ 16) (x0 : FVec Ideal S4x8192x2048 .f32) (x1 : FVec Ideal S2048x2048 .f32)
    (x2 : FVec Ideal S4x512x512 .f32) (i : S4x8192x512.Idx)
    (g : GatherDims S4x8207x512 ⟨3, ![8192, w, 1]⟩ ⟨4, ![4, 8192, w, 512]⟩) (hg : IsRows g)
    (X : S4x8207x512.Idx → EReal) (W : IVec ⟨3, ![8192, w, 1]⟩ 32)
    (J : S4x8207x512.Idx → S4x8207x2048.Idx) (hX : ∀ j, X j = val_main_v1 (F := Ideal) x0 x1 (J j))
    (J0 : ∀ j, (J j 0).val = (j 0).val) (J1 : ∀ j, (J j 1).val = (j 1).val) (J2 : ∀ j, (J j 2).val = 512 * n + (j 2).val)
    (hW : ∀ (p : Fin 8192) (d : Fin w), W (ValueIdx.ix3 p d (0 : Fin 1))
      = Scalar.select (IntOp.cmpi .slt (IntOp.subi (IntOp.addi 15#32 (BitVec.ofNat 32 p.val)) (BitVec.ofNat 32 d.val)) 0#32)
          (IntOp.addi (IntOp.subi (IntOp.addi 15#32 (BitVec.ofNat 32 p.val)) (BitVec.ofNat 32 d.val)) 8207#32)
          (IntOp.subi (IntOp.addi 15#32 (BitVec.ofNat 32 p.val)) (BitVec.ofNat 32 d.val)))
    (K : Fin 512 → Fin w → (⟨4, ![4, 8192, w, 512]⟩ : Shape).Idx) (K0 : ∀ k d, (K k d 0).val = (i 0).val)
    (K1 : ∀ k d, (K k d 1).val = (i 1).val) (K2 : ∀ k d, (K k d 2).val = d.val) (K3 : ∀ k d, (K k d 3).val = k.val)
    (L : Fin 512 → S4x8192x2048.Idx) (L0 : ∀ k, (L k 0).val = (i 0).val) (L1 : ∀ k, (L k 1).val = (i 1).val)
    (L2 : ∀ k, (L k 2).val = 512 * n + k.val)
    (M : Fin 512 → S4x512x512.Idx) (M0 : ∀ k, (M k 0).val = n) (M1 : ∀ k, (M k 1).val = (k.val * 512 + (i 2).val) / 512 % 512)
    (M2 : ∀ k, (M k 2).val = (k.val * 512 + (i 2).val) % 512) :
    (∑ k : Fin 512, (Ideal.div (Ideal.ofBits .f32 0x00000000#32 + ∑ d : Fin w, Host.gather g X W (K k d))
        (FloatOps.sitofp .f32 (IntOp.minsi (BitVec.ofNat 32 w) (IntOp.addi (BitVec.ofNat 32 (i 1).val) 1#32)) : Ideal .f32)
        - val_main_v0 (F := Ideal) x0 x1 (L k)) * x2 (M k))
      = group (fun d a => past (val_main_v0 (F := Ideal) x0 x1) (i 0).val (i 1).val d a) x2 (i 1).val n (i 2).val := by
  have h1 : (i 1).val < 8192 := (i 1).isLt
  have h2 : (i 2).val < 512 := (i 2).isLt
  refine group_sum _ _ _ _ _ w hw _ _ _ _ (fun k => ?_) (fun k => ?_) (fun k => ?_) fun k => ?_
  · refine (congrArg₂ (· + ·) zero_bits (Finset.sum_congr rfl fun d _ => ?_)).trans (zero_add _)
    have hd : d.val < 16 := lt_of_lt_of_le d.isLt h16
    have hp : (K k d 1).val < 8192 := (K k d 1).isLt
    refine (gather_rows g hg X W (K k d) (⟨15 + (K k d 1).val - (K k d 2).val, by omega⟩ : Fin 8207) ?_).trans ?_
    · exact (congrArg (fun z : BitVec 32 => z.toInt.toNat) (hW (K k d 1) (K k d 2))).trans (past_select _ _ hp (by rw [K2]; exact hd))
    · rw [hX]
      refine padded_past x0 x1 _ _ _ _ _ ((J0 _).trans (K0 k d)) ((J1 _).trans ?_) hd ((J2 _).trans ?_)
      · show 15 + (K k d 1).val - (K k d 2).val = _
        rw [K1, K2]
      · show 512 * n + (K k d 3).val = _
        rw [K3]
  · exact congrArg (fun z : ℤ => ((z : ℝ) : EReal)) (count_word w _ h16 h1)
  · unfold past
    rw [if_pos (Nat.zero_le _)]
    exact eq_at3 _ _ _ _ _ (L0 k) (L1 k) (L2 k)
  · have hk : k.val < 512 := k.isLt
    exact eq_at3 _ _ _ _ _ (M0 k) ((M1 k).trans (by omega)) ((M2 k).trans (by omega))

theorem reference_group_0 (x0 : FVec Ideal S4x8192x2048 .f32) (x1 : FVec Ideal S2048x2048 .f32) (x2 : FVec Ideal S4x512x512 .f32)
    (i : S4x8192x512.Idx) :
    val_main_v32 (F := Ideal) x0 x1 x2 i
      = group (fun d a => past (val_main_v0 (F := Ideal) x0 x1) (i 0).val (i 1).val d a) x2 (i 1).val 0 (i 2).val := by
  simp only [val_main_v32_apply, val_main_v29_apply, val_main_v27_apply, val_main_v24_apply, val_main_v28_apply, val_main_v26_apply, val_main_v25_apply, val_main_v15_apply, val_main_v14_apply, val_main_v13_apply, val_main_v12_apply, val_main_v11_apply, val_main_v2_apply, val_main_c_1_apply, val_main_c_2_apply, val_main_cst_apply,
    val_main_v31_apply, val_main_v30_apply, val_main_v23]
  exact group_of_gather (w := 2) (n := 0) rfl (by decide) x0 x1 x2 i _ ⟨rfl, rfl, rfl, rfl, rfl, rfl, rfl⟩ _ _ idx_main_v16 (val_main_v16_apply (F := Ideal) x0 x1) (fun _ => rfl) (fun _ => rfl) (fun j => by show (j 2).val = 512 * 0 + (j 2).val; omega)
    (fun p d => by simp only [val_main_v2_apply, val_main_v3_apply, val_main_v4_apply, val_main_v5_apply, val_main_v6_apply, val_main_v7_apply, val_main_v8_apply, val_main_v9_apply, val_main_v10_apply, val_main_v17_apply, val_main_v18_apply, val_main_v19_apply, val_main_v20_apply, val_main_v21_apply, val_main_v22_apply, val_main_c_0_apply, val_main_c_3_apply, val_main_c_4_apply])
    _ (fun _ _ => rfl) (fun _ _ => rfl) (fun _ _ => rfl) (fun _ _ => rfl) _ (fun _ => rfl) (fun _ => rfl) (fun k => by show k.val = 512 * 0 + k.val; omega)
    _ (fun _ => rfl) (fun _ => rfl) (fun _ => rfl)

theorem reference_group_1 (x0 : FVec Ideal S4x8192x2048 .f32) (x1 : FVec Ideal S2048x2048 .f32) (x2 : FVec Ideal S4x512x512 .f32)
    (i : S4x8192x512.Idx) :
    val_main_v62 (F := Ideal) x0 x1 x2 i
      = group (fun d a => past (val_main_v0 (F := Ideal) x0 x1) (i 0).val (i 1).val d a) x2 (i 1).val 1 (i 2).val := by
  simp only [val_main_v62_apply, val_main_v59_apply, val_main_v57_apply, val_main_v54_apply, val_main_v58_apply, val_main_v56_apply, val_main_v55_apply, val_main_v45_apply, val_main_v44_apply, val_main_v43_apply, val_main_v42_apply, val_main_v41_apply, val_main_v2_apply, val_main_c_6_apply, val_main_c_7_apply, val_main_cst_10_apply,
    val_main_v61_apply, val_main_v60_apply, val_main_v53]
  exact group_of_gather (w := 4) (n := 1) rfl (by decide) x0 x1 x2 i _ ⟨rfl, rfl, rfl, rfl, rfl, rfl, rfl⟩ _ _ idx_main_v46 (val_main_v46_apply (F := Ideal) x0 x1) (fun _ => rfl) (fun _ => rfl) (fun _ => rfl)
    (fun p d => by simp only [val_main_v2_apply, val_main_v33_apply, val_main_v34_apply, val_main_v35_apply, val_main_v36_apply, val_main_v37_apply, val_main_v38_apply, val_main_v39_apply, val_main_v40_apply, val_main_v47_apply, val_main_v48_apply, val_main_v49_apply, val_main_v50_apply, val_main_v51_apply, val_main_v52_apply, val_main_c_5_apply, val_main_c_8_apply, val_main_c_9_apply])
    _ (fun _ _ => rfl) (fun _ _ => rfl) (fun _ _ => rfl) (fun _ _ => rfl) _ (fun _ => rfl) (fun _ => rfl) (fun _ => rfl)
    _ (fun _ => rfl) (fun _ => rfl) (fun _ => rfl)

theorem reference_group_2 (x0 : FVec Ideal S4x8192x2048 .f32) (x1 : FVec Ideal S2048x2048 .f32) (x2 : FVec Ideal S4x512x512 .f32)
    (i : S4x8192x512.Idx) :
    val_main_v92 (F := Ideal) x0 x1 x2 i
      = group (fun d a => past (val_main_v0 (F := Ideal) x0 x1) (i 0).val (i 1).val d a) x2 (i 1).val 2 (i 2).val := by
  simp only [val_main_v92_apply, val_main_v89_apply, val_main_v87_apply, val_main_v84_apply, val_main_v88_apply, val_main_v86_apply, val_main_v85_apply, val_main_v75_apply, val_main_v74_apply, val_main_v73_apply, val_main_v72_apply, val_main_v71_apply, val_main_v2_apply, val_main_c_12_apply, val_main_c_13_apply, val_main_cst_16_apply,
    val_main_v91_apply, val_main_v90_apply, val_main_v83]
  exact group_of_gather (w := 8) (n := 2) rfl (by decide) x0 x1 x2 i _ ⟨rfl, rfl, rfl, rfl, rfl, rfl, rfl⟩ _ _ idx_main_v76 (val_main_v76_apply (F := Ideal) x0 x1) (fun _ => rfl) (fun _ => rfl) (fun _ => rfl)
    (fun p d => by simp only [val_main_v2_apply, val_main_v63_apply, val_main_v64_apply, val_main_v65_apply, val_main_v66_apply, val_main_v67_apply, val_main_v68_apply, val_main_v69_apply, val_main_v70_apply, val_main_v77_apply, val_main_v78_apply, val_main_v79_apply, val_main_v80_apply, val_main_v81_apply, val_main_v82_apply, val_main_c_11_apply, val_main_c_14_apply, val_main_c_15_apply])
    _ (fun _ _ => rfl) (fun _ _ => rfl) (fun _ _ => rfl) (fun _ _ => rfl) _ (fun _ => rfl) (fun _ => rfl) (fun _ => rfl)
    _ (fun _ => rfl) (fun _ => rfl) (fun _ => rfl)

theorem reference_group_3 (x0 : FVec Ideal S4x8192x2048 .f32) (x1 : FVec Ideal S2048x2048 .f32) (x2 : FVec Ideal S4x512x512 .f32)
    (i : S4x8192x512.Idx) :
    val_main_v122 (F := Ideal) x0 x1 x2 i
      = group (fun d a => past (val_main_v0 (F := Ideal) x0 x1) (i 0).val (i 1).val d a) x2 (i 1).val 3 (i 2).val := by
  simp only [val_main_v122_apply, val_main_v119_apply, val_main_v117_apply, val_main_v114_apply, val_main_v118_apply, val_main_v116_apply, val_main_v115_apply, val_main_v105_apply, val_main_v104_apply, val_main_v103_apply, val_main_v102_apply, val_main_v101_apply, val_main_v2_apply, val_main_c_18_apply, val_main_c_19_apply, val_main_cst_22_apply,
    val_main_v121_apply, val_main_v120_apply, val_main_v113]
  exact group_of_gather (w := 16) (n := 3) rfl (by decide) x0 x1 x2 i _ ⟨rfl, rfl, rfl, rfl, rfl, rfl, rfl⟩ _ _ idx_main_v106 (val_main_v106_apply (F := Ideal) x0 x1) (fun _ => rfl) (fun _ => rfl) (fun _ => rfl)
    (fun p d => by simp only [val_main_v2_apply, val_main_v93_apply, val_main_v94_apply, val_main_v95_apply, val_main_v96_apply, val_main_v97_apply, val_main_v98_apply, val_main_v99_apply, val_main_v100_apply, val_main_v107_apply, val_main_v108_apply, val_main_v109_apply, val_main_v110_apply, val_main_v111_apply, val_main_v112_apply, val_main_c_17_apply, val_main_c_20_apply, val_main_c_21_apply])
    _ (fun _ _ => rfl) (fun _ _ => rfl) (fun _ _ => rfl) (fun _ _ => rfl) _ (fun _ => rfl) (fun _ => rfl) (fun _ => rfl)
    _ (fun _ => rfl) (fun _ => rfl) (fun _ => rfl)

theorem side (A B C D : S4x8192x512.Idx → EReal) (f : ℕ → Fin 512 → EReal) (b : Fin 4) (p : Fin 8192)
    (ha : ∀ q, A (ValueIdx.ix3 b p q) = f 0 q) (hb : ∀ q, B (ValueIdx.ix3 b p q) = f 1 q)
    (hc : ∀ q, C (ValueIdx.ix3 b p q) = f 2 q) (hd : ∀ q, D (ValueIdx.ix3 b p q) = f 3 q) (q : Fin 2048) :
    concatenate S4x8192x2048 2 [⟨S4x8192x512, A⟩, ⟨S4x8192x512, B⟩, ⟨S4x8192x512, C⟩, ⟨S4x8192x512, D⟩]
        concatenates_S4x8192x512_S4x8192x512_S4x8192x512_S4x8192x512_S4x8192x2048_d2 (ValueIdx.ix3 b p q)
      = f (q.val / 512) (⟨q.val % 512, Nat.mod_lt _ (by decide)⟩ : Fin 512) := by
  pointwise
  have hq : q.val < 2048 := q.isLt
  by_cases h0 : q.val < 512
  · rw [dif_pos h0]
    refine (ha _).trans (pick f ?_ ?_)
    · omega
    · show q.val = q.val % 512; omega
  rw [dif_neg h0]
  by_cases h1 : q.val - 512 < 512
  · rw [dif_pos h1]
    refine (hb _).trans (pick f ?_ ?_)
    · omega
    · show q.val - 512 = q.val % 512; omega
  rw [dif_neg h1]
  by_cases h2 : q.val - 512 - 512 < 512
  · rw [dif_pos h2]
    refine (hc _).trans (pick f ?_ ?_)
    · omega
    · show q.val - 512 - 512 = q.val % 512; omega
  rw [dif_neg h2]
  refine (hd _).trans (pick f ?_ ?_)
  · omega
  · show q.val - 512 - 512 - 512 = q.val % 512; omega

variable (x0 : FVec Ideal S4x8192x2048 .f32) (x1 : FVec Ideal S2048x2048 .f32) (x2 : FVec Ideal S4x512x512 .f32)
  (x3 x4 x5 : FVec Ideal S2048 .f32)

theorem reference_mixed (b : Fin 4) (p : Fin 8192) (q : Fin 2048) :
    val_main_v129 (F := Ideal) x0 x1 x2 x3 (ValueIdx.ix3 b p q)
      = mixed (fun a => at3 (α := EReal) x0 b.val p.val a) (fun d a => past (val_main_v0 (F := Ideal) x0 x1) b.val p.val d a) x2
          (fun a => x3 (ValueIdx.ix1 (Fin.ofNat 2048 a))) p.val q.val := by
  simp only [val_main_v129_apply, val_main_v124_apply, val_main_v123_apply, val_main_cst_23_apply, val_main_v128_apply,
    val_main_v127_apply, val_main_v126_apply]
  unfold mixed
  refine congrArg₂ (· + ·) (congrArg₂ (· * ·) rfl (eq_at3 _ _ _ _ _ rfl rfl rfl)) (congrArg₂ (· * ·) ?_ ?_)
  · unfold val_main_v125
    exact side _ _ _ _ (fun n q => group (fun d a => past (val_main_v0 (F := Ideal) x0 x1) b.val p.val d a) x2 p.val n q.val) b p
      (fun q => reference_group_0 x0 x1 x2 _) (fun q => reference_group_1 x0 x1 x2 _) (fun q => reference_group_2 x0 x1 x2 _)
      (fun q => reference_group_3 x0 x1 x2 _) q
  · refine congrArg x3 (funext fun a => match a with | ⟨0, _⟩ => ?_)
    exact (ofNat_val q).symm

theorem ix3_eq {l m n : ℕ} (i : (⟨3, ![l, m, n]⟩ : Shape).Idx) (a : Fin l) (b : Fin m) (c : Fin n)
    (h0 : (i 0).val = a.val) (h1 : (i 1).val = b.val) (h2 : (i 2).val = c.val) : i = ValueIdx.ix3 a b c :=
  funext fun z => match z with | ⟨0, _⟩ => Fin.ext h0 | ⟨1, _⟩ => Fin.ext h1 | ⟨2, _⟩ => Fin.ext h2

theorem reference_mean (b : Fin 4) (p : Fin 8192) (i : S4x8192x1.Idx) (h0 : (i 0).val = b.val) (h1 : (i 1).val = p.val) :
    val_main_v133 (F := Ideal) x0 x1 x2 x3 i
      = Ideal.div (∑ k, val_main_v129 (F := Ideal) x0 x1 x2 x3 (ValueIdx.ix3 b p k)) (Ideal.ofBits .f32 0x45000000#32) := by
  simp only [val_main_v133_apply, val_main_v132_apply, val_main_v131_apply, val_main_v130_apply, val_main_cst_24_apply, val_main_cst_25_apply]
  refine congrArg₂ Ideal.div ((congrArg₂ (· + ·) zero_bits (Finset.sum_congr rfl fun k _ => congrArg _ ?_)).trans (zero_add _)) rfl
  exact ix3_eq _ _ _ _ h0 h1 rfl

theorem reference_centred (b : Fin 4) (p : Fin 8192) (i : S4x8192x2048.Idx) (k : Fin 2048) (h0 : (i 0).val = b.val) (h1 : (i 1).val = p.val) (h2 : (i 2).val = k.val) :
    val_main_v135 (F := Ideal) x0 x1 x2 x3 i
      = val_main_v129 (F := Ideal) x0 x1 x2 x3 (ValueIdx.ix3 b p k)
        - Ideal.div (∑ k, val_main_v129 (F := Ideal) x0 x1 x2 x3 (ValueIdx.ix3 b p k)) (Ideal.ofBits .f32 0x45000000#32) := by
  rw [val_main_v135_apply, val_main_v134_apply]
  refine congrArg₂ (· - ·) (congrArg _ (ix3_eq _ _ _ _ h0 h1 h2)) (reference_mean x0 x1 x2 x3 b p _ h0 h1)

theorem reference_normed (b : Fin 4) (p : Fin 8192) (q : Fin 2048) :
    val_main_v153 (F := Ideal) x0 x1 x2 x3 x4 x5 (ValueIdx.ix3 b p q)
      = normed (fun k => val_main_v129 (F := Ideal) x0 x1 x2 x3 (ValueIdx.ix3 b p k)) q (x4 (ValueIdx.ix1 q)) (x5 (ValueIdx.ix1 q)) := by
  simp only [val_main_v153_apply, val_main_v152_apply, val_main_v151_apply, val_main_v150_apply, val_main_v149_apply, val_main_v148_apply,
    val_main_v147_apply, val_main_v146_apply, val_main_v145_apply, val_main_v144_apply, val_main_v143_apply, val_main_v142_apply,
    val_main_v141_apply, val_main_v140_apply, val_main_v139_apply, val_main_v138_apply, val_main_v137_apply, val_main_v136_apply,
    val_main_cst_26_apply, val_main_cst_27_apply, val_main_cst_28_apply]
  unfold normed
  refine congrArg₂ (· + ·) (congrArg₂ (· * ·) (congrArg₂ (· * ·) (congrArg₂ (· - ·) rfl (reference_mean x0 x1 x2 x3 b p _ rfl rfl))
    (congrArg Ideal.rsqrt (congrArg₂ (· + ·) (congrArg₂ Ideal.div ((congrArg₂ (· + ·) zero_bits
      (Finset.sum_congr rfl fun k _ => congrArg₂ (· * ·) (reference_centred x0 x1 x2 x3 b p _ k rfl rfl rfl) (reference_centred x0 x1 x2 x3 b p _ k rfl rfl rfl))).trans
        (zero_add _)) rfl) rfl))) ?_) ?_
  · exact congrArg x4 (funext fun a => match a with | ⟨0, _⟩ => rfl)
  · exact congrArg x5 (funext fun a => match a with | ⟨0, _⟩ => rfl)

/-- The reference's entry in the kernel's terms. -/
theorem reference_apply (b : Fin 4) (p : Fin 8192) (q : Fin 2048) :
    val_main_v153 (F := Ideal) x0 x1 x2 x3 x4 x5 (ValueIdx.ix3 b p q)
      = normed (fun k => mixed (fun a => at3 (α := EReal) x0 b.val p.val a)
          (fun d a => past (val_main_v0 (F := Ideal) x0 x1) b.val p.val d a) x2
          (fun a => x3 (ValueIdx.ix1 (Fin.ofNat 2048 a))) p.val k.val) q (x4 (ValueIdx.ix1 q)) (x5 (ValueIdx.ix1 q)) := by
  refine (reference_normed x0 x1 x2 x3 x4 x5 b p q).trans ?_
  congr 1
  exact funext fun k => reference_mixed x0 x1 x2 x3 b p k

end Cert.Pool
end
-- ==== Proof.PoolValue.lean ====
/-
  The pooling mixer: what the kernel leaves, and what the reference computes, entry by entry.
-/
module

public import proofs.«01_k».proof.Proof.Gen.PoolIdeal.Value
public import proofs.«01_k».proof.Proof.PoolFirst
public import proofs.«01_k».proof.Proof.PoolNext
public import proofs.«01_k».proof.Proof.PoolRef
public import Idealize.ShloMosaic.Lib.Pipeline.ValueKit.Point

@[expose] public section

set_option maxRecDepth 16384
set_option maxHeartbeats 1000000

noncomputable section

namespace Cert.Pool

open Idealize.ShloMosaic Idealize.ShloMosaic.TcCoe Cert.PoolIdeal Cert.PoolIdeal.Gen Cert.PoolRefIdeal.Read Cert.Attn
open scoped BigOperators

theorem idx_0 : ∀ t : Fin cfg0.N, win0_0.index t = ![t.val / 16, t.val % 16, 0] :=
  (by decide +kernel : ∀ t : Fin grid0.N, win0_0.index t = ![t.val / 16, t.val % 16, 0])
theorem idx_1 : ∀ t : Fin cfg0.N, win0_1.index t = ![t.val / 16, 0, 0] :=
  (by decide +kernel : ∀ t : Fin grid0.N, win0_1.index t = ![t.val / 16, 0, 0])
theorem idx_2 : ∀ t : Fin cfg0.N, win0_2.index t = ![0, 0] :=
  (by decide +kernel : ∀ t : Fin grid0.N, win0_2.index t = ![0, 0])
theorem idx_3 : ∀ t : Fin cfg0.N, win0_3.index t = ![0, 0, 0] :=
  (by decide +kernel : ∀ t : Fin grid0.N, win0_3.index t = ![0, 0, 0])
theorem idx_4 : ∀ t : Fin cfg0.N, win0_4.index t = ![0, 0] :=
  (by decide +kernel : ∀ t : Fin grid0.N, win0_4.index t = ![0, 0])
theorem idx_5 : ∀ t : Fin cfg0.N, win0_5.index t = ![0, 0] :=
  (by decide +kernel : ∀ t : Fin grid0.N, win0_5.index t = ![0, 0])
theorem idx_6 : ∀ t : Fin cfg0.N, win0_6.index t = ![0, 0] :=
  (by decide +kernel : ∀ t : Fin grid0.N, win0_6.index t = ![0, 0])
theorem idx_7 : ∀ t : Fin cfg0.N, win0_7.index t = ![t.val / 16, t.val % 16, 0] :=
  (by decide +kernel : ∀ t : Fin grid0.N, win0_7.index t = ![t.val / 16, t.val % 16, 0])
theorem idx_8 : ∀ t : Fin cfg0.N, win0_8.index t = ![t.val / 16, t.val % 16, 0] :=
  (by decide +kernel : ∀ t : Fin grid0.N, win0_8.index t = ![t.val / 16, t.val % 16, 0])
theorem idx_9 : ∀ t : Fin cfg0.N, win0_9.index t = ![t.val / 16, 0, 0] :=
  (by decide +kernel : ∀ t : Fin grid0.N, win0_9.index t = ![t.val / 16, 0, 0])
theorem place_eq : ∀ t : Fin cfg0.N, ((grid0.coords t) 1).val = t.val % 16 :=
  (by decide +kernel : ∀ t : Fin grid0.N, ((grid0.coords t) 1).val = t.val % 16)

variable (m : (ℓ : Loc nD τ sig) → Buf (Elt Ideal) ℓ) (c : Dev nD)

theorem x_entry (t : Fin cfg0.N) (i : S1x512x2048.Idx) :
    (iblk m c 0 t i : EReal) = at3 (α := EReal) (m ((c : Thread nD τ).loc main_arg0)) (t.val / 16) (512 * (t.val % 16) + (i 1).val) (i 2).val := by
  blk_simp [iblk, idx_0 t]
  entry_read
  pointwise
  have h0 : win0_0.index t (0 : Fin 3) = t.val / 16 := congrFun (idx_0 t) 0
  have h1 : win0_0.index t (1 : Fin 3) = t.val % 16 := congrFun (idx_0 t) 1
  have h2 : win0_0.index t (2 : Fin 3) = 0 := congrFun (idx_0 t) 2
  have i0 : (i 0).val < 1 := (i 0).isLt
  refine eq_at3 (α := EReal) (m ((c : Thread nD τ).loc main_arg0)) _ _ _ _ ?_ ?_ ?_
  · show win0_0.index t (0 : Fin 3) * 1 + 1 * (i 0).val = _
    omega
  · show win0_0.index t (1 : Fin 3) * 512 + 1 * (i 1).val = _
    omega
  · show win0_0.index t (2 : Fin 3) * 2048 + 1 * (i 2).val = _
    omega

theorem hist_entry (t : Fin cfg0.N) (i : S1x16x2048.Idx) : (iblk m c 1 t i : EReal) = (0 : EReal) := by
  blk_simp [iblk, idx_1 t]
  entry_read
  pointwise

theorem w_entry (t : Fin cfg0.N) (i : S2048x2048.Idx) :
    (iblk m c 2 t i : EReal) = (m ((c : Thread nD τ).loc main_arg1) : S2048x2048.Idx → EReal) i := by
  blk_simp [iblk, idx_2 t]
  entry_read
  pointwise
  blk_ext [iblk, idx_2 t]

theorem g_entry (t : Fin cfg0.N) (i : S4x512x512.Idx) :
    (iblk m c 3 t i : EReal) = (m ((c : Thread nD τ).loc main_arg2) : S4x512x512.Idx → EReal) i := by
  blk_simp [iblk, idx_3 t]
  entry_read
  pointwise
  blk_ext [iblk, idx_3 t]

theorem s_entry (t : Fin cfg0.N) (q : Fin 2048) :
    (iblk m c 4 t (ValueIdx.ix2 (0 : Fin 1) q) : EReal) = (m ((c : Thread nD τ).loc main_arg3) : S2048.Idx → EReal) (ValueIdx.ix1 q) := by
  blk_simp [iblk, idx_4 t]
  entry_read
  pointwise
  blk_ext [iblk, idx_4 t]

theorem gain_entry (t : Fin cfg0.N) (q : Fin 2048) :
    (iblk m c 5 t (ValueIdx.ix2 (0 : Fin 1) q) : EReal) = (m ((c : Thread nD τ).loc main_arg4) : S2048.Idx → EReal) (ValueIdx.ix1 q) := by
  blk_simp [iblk, idx_5 t]
  entry_read
  pointwise
  blk_ext [iblk, idx_5 t]

theorem shift_entry (t : Fin cfg0.N) (q : Fin 2048) :
    (iblk m c 6 t (ValueIdx.ix2 (0 : Fin 1) q) : EReal) = (m ((c : Thread nD τ).loc main_arg5) : S2048.Idx → EReal) (ValueIdx.ix1 q) := by
  blk_simp [iblk, idx_6 t]
  entry_read
  pointwise
  blk_ext [iblk, idx_6 t]

/-- The projected rows, as the reference has them. -/
abbrev own : S4x8192x2048.Idx → EReal :=
  val_main_v0 (F := Ideal) (m ((c : Thread nD τ).loc main_arg0)) (m ((c : Thread nD τ).loc main_arg1))

theorem product_apply (x : Vec Ideal S1x512x2048 .f32) (w : Vec Ideal S2048x2048 .bf16) (r : Fin 512) (q : Fin 2048) :
    (k0_pay8 (F := Ideal) x w (ValueIdx.ix2 r q) : EReal) = ∑ k : Fin 2048, x (ValueIdx.ix3 0 r k) * w (ValueIdx.ix2 k q) := by
  unfold k0_pay8 k0_pay7
  pointwise
  rfl

theorem own_block (t : Fin cfg0.N) (r q : ℕ) (hr : r < 512) (hq : q < 2048) :
    at2 (α := EReal) (k0_pay8 (F := Ideal) (iblk m c 0 t) (iblk m c 2 t) : S512x2048.Idx → EReal) r q
      = at3 (own m c) (t.val / 16) (512 * (t.val % 16) + r) q := by
  have ht : t.val < 64 := t.isLt
  unfold at2 at3
  unfold own
  rw [val_main_v0_apply]
  refine (product_apply _ _ _ _).trans ?_
  refine Finset.sum_congr rfl fun k _ => congrArg₂ (· * ·) ?_ ?_
  · refine (x_entry m c t _).trans (eq_at3 (α := EReal) (m ((c : Thread nD τ).loc main_arg0)) _ _ _ _ ?_ ?_ ?_).symm
    · show (t.val / 16) % 4 = _
      omega
    · show (512 * (t.val % 16) + r) % 8192 = 512 * (t.val % 16) + r % 512
      omega
    · rfl
  · refine (w_entry m c t _).trans (congrArg _ ?_)
    exact funext fun a => match a with | ⟨0, _⟩ => rfl | ⟨1, _⟩ => rfl

/-- The rows before a point's block: those it reads at a sequence's start, else those the point before passed on. -/
def before (t : Fin cfg0.N) (r a : ℕ) : EReal :=
  if t.val % 16 = 0 then at3 (α := EReal) (iblk m c 1 t) 0 r a
  else at2 (α := EReal) (outsAt0 m c (t.val - 1) (Nat.lt_of_le_of_lt (Nat.sub_le _ _) t.isLt)).2.2.2 r a

/-- What a point leaves. -/
theorem left_at (t : Fin cfg0.N) :
    Left (grid0.coords t) (iblk m c 0 t) (iblk m c 2 t) (iblk m c 3 t) (iblk m c 4 t) (iblk m c 5 t) (iblk m c 6 t)
      (tape (before m c t) (k0_pay8 (F := Ideal) (iblk m c 0 t) (iblk m c 2 t)))
      (outsAt0 m c t.val t.isLt).1 (outsAt0 m c t.val t.isLt).2.1 (outsAt0 m c t.val t.isLt).2.2.1 (outsAt0 m c t.val t.isLt).2.2.2 := by
  by_cases h : t.val % 16 = 0
  · have e : before m c t = fun r a => at3 (α := EReal) (iblk m c 1 t) 0 r a := funext fun r => funext fun a => if_pos h
    rw [e, outsAt0_A m c t h]
    dsimp only
    exact left_A c _ _ _ _ _ _ _ _ _ _ _ _ _ _ _ _ _ _ _ _ _ _ _ _ _ _ _ _ _ _ _
  · have e : before m c t = fun r a => at2 (α := EReal) (outsAt0 m c (t.val - 1) (Nat.lt_of_le_of_lt (Nat.sub_le _ _) t.isLt)).2.2.2 r a :=
      funext fun r => funext fun a => if_neg h
    rw [e, outsAt0_B m c t h]
    dsimp only
    exact left_B c _ _ _ _ _ _ _ _ _ _ _ _ _ _ _ _ _ _ _ _ _ _ _ _ _ _ _ _ _ _ _ _

/-- The rows before a block are the sequence's, or zeros before the first. -/
theorem before_apply (t : Fin cfg0.N) (r a : ℕ) (h0 : 0 < r) (hr : r < 16) (ha : a < 2048) :
    before m c t r a = if 16 ≤ 512 * (t.val % 16) + r then at3 (own m c) (t.val / 16) (512 * (t.val % 16) + r - 16) a else 0 := by
  unfold before
  by_cases h : t.val % 16 = 0
  · rw [if_pos h, if_neg (by omega)]
    exact hist_entry m c t _
  · rw [if_neg h, if_pos (by omega)]
    have hu : t.val - 1 < cfg0.N := Nat.lt_of_le_of_lt (Nat.sub_le _ _) t.isLt
    have er : r % 528 = r := Nat.mod_eq_of_lt (by omega)
    have ea : a % 2048 = a := Nat.mod_eq_of_lt ha
    refine ((left_at m c ⟨t.val - 1, hu⟩).carry _ (by show r % 528 < 16; omega)).trans ?_
    show at2 _ (496 + r % 528) (a % 2048) = _
    rw [er, ea]
    refine (own_block m c ⟨t.val - 1, hu⟩ (496 + r) a (by omega) ha).trans ?_
    have e0 : (t.val - 1) / 16 = t.val / 16 := by omega
    have e1 : 512 * ((t.val - 1) % 16) + (496 + r) = 512 * (t.val % 16) + r - 16 := by omega
    show at3 (own m c) ((t.val - 1) / 16) (512 * ((t.val - 1) % 16) + (496 + r)) a = _
    rw [e0, e1]

/-- The scratch's row `d` back of a row of the block is the sequence's. -/
theorem tape_past (t : Fin cfg0.N) (r d a : ℕ) (hr : r < 512) (hd : d < 16) (ha : a < 2048) :
    at2 (tape (before m c t) (k0_pay8 (F := Ideal) (iblk m c 0 t) (iblk m c 2 t))) (r + 16 - d) a
      = past (own m c) (t.val / 16) (512 * (t.val % 16) + r) d a := by
  unfold past
  by_cases hdr : d ≤ r
  · have e : r + 16 - d = r - d + 16 := by omega
    rw [e, tape_high _ _ (r - d) a (by omega) ha, own_block m c t _ _ (by omega) ha, if_pos (by omega)]
    have e' : 512 * (t.val % 16) + (r - d) = 512 * (t.val % 16) + r - d := by omega
    rw [e']
  · rw [tape_low _ _ _ a (by omega) ha, before_apply m c t _ a (by omega) (by omega) ha]
    have e' : 512 * (t.val % 16) + (r + 16 - d) - 16 = 512 * (t.val % 16) + r - d := by omega
    rw [e']
    by_cases hp : d ≤ 512 * (t.val % 16) + r
    · rw [if_pos (by omega), if_pos hp]
    · rw [if_neg (by omega), if_neg hp]

theorem mixed_congr {X X' : ℕ → EReal} {T T' : ℕ → ℕ → EReal} {G G' : S4x512x512.Idx → EReal} {s s' : ℕ → EReal} {p p' q : ℕ}
    (hq : q < 2048) (hX : X q = X' q) (hT : ∀ d a, d < 16 → a < 2048 → T d a = T' d a) (hG : G = G') (hs : s q = s' q) (hp : p = p') :
    mixed X T G s p q = mixed X' T' G' s' p' q := by
  subst hG hp
  unfold mixed group lift
  rw [hX, hs]
  refine congrArg₂ (· + ·) rfl (congrArg₂ (· * ·) (Finset.sum_congr rfl fun k _ => congrArg₂ (· * ·) ?_ rfl) rfl)
  have hk : k.val < 512 := k.isLt
  have hn : q / 512 < 4 := by omega
  have hpow : 2 ^ (q / 512 + 1) ≤ 2 ^ 4 := Nat.pow_le_pow_right (by decide) (by omega)
  refine congrArg₂ (· - ·) (congrArg₂ Ideal.div (Finset.sum_congr rfl fun d _ => hT _ _ ?_ ?_) rfl) (hT _ _ ?_ ?_)
  · have hd := d.isLt
    omega
  · omega
  · omega
  · omega

/-- An entry of a block, at its place in the array. -/
theorem value_apply (t : Fin cfg0.N) (y : S1x512x2048.Idx) (i : S4x8192x2048.Idx) {f : Fin 3 → ℕ} (hf : f = ![t.val / 16, t.val % 16, 0])
    (h0 : (i 0).val = f 0 * 1 + 1 * (y 0).val) (h1 : (i 1).val = f 1 * 512 + 1 * (y 1).val) (h2 : (i 2).val = f 2 * 2048 + 1 * (y 2).val) :
    k0_pay1 (F := Ideal) (iblk m c 5 t) (iblk m c 6 t)
        (centred (grid0.coords t) (iblk m c 0 t) (iblk m c 2 t) (iblk m c 3 t) (iblk m c 4 t) (tape (before m c t) (k0_pay8 (F := Ideal) (iblk m c 0 t) (iblk m c 2 t))))
        (scaled (grid0.coords t) (iblk m c 0 t) (iblk m c 2 t) (iblk m c 3 t) (iblk m c 4 t) (tape (before m c t) (k0_pay8 (F := Ideal) (iblk m c 0 t) (iblk m c 2 t))))
        (ValueIdx.ix2 (y 1) (y 2))
      = val_main_v153 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) i := by
  have f0 : f 0 = t.val / 16 := congrFun hf 0
  have f1 : f 1 = t.val % 16 := congrFun hf 1
  have f2 : f 2 = 0 := congrFun hf 2
  have y0 : (y 0).val < 1 := (y 0).isLt
  have i0 : (i 0).val = t.val / 16 := by omega
  have i1 : (i 1).val = 512 * (t.val % 16) + (y 1).val := by omega
  have i2 : (i 2).val = (y 2).val := by omega
  generalize (y 1) = r at i1 ⊢
  generalize (y 2) = q at i2 ⊢
  have ei : i = ValueIdx.ix3 (i 0) (i 1) q := ix3_eq i _ _ _ rfl rfl i2
  rw [ei]
  refine (block_apply (grid0.coords t) _ _ _ (fun r q hr hq => (tape_high _ _ r q hr hq).symm) _ _ _ _ r q).trans ?_
  refine Eq.trans ?_ (reference_apply _ _ _ _ _ _ (i 0) (i 1) q).symm
  rw [gain_entry m c t q, shift_entry m c t q]
  congr 1
  refine funext fun k => mixed_congr k.isLt ?_ ?_ ?_ ?_ ?_
  · refine (x_entry m c t _).trans ?_
    rw [i0, i1]
    show at3 _ _ (512 * (t.val % 16) + r.val % 512) (k.val % 2048) = _
    rw [Nat.mod_eq_of_lt (show r.val < 512 from r.isLt), Nat.mod_eq_of_lt k.isLt]
  · intro d a hd ha
    rw [i0, i1]
    exact tape_past m c t r.val d a r.isLt hd ha
  · exact funext fun j => g_entry m c t j
  · exact s_entry m c t _
  · rw [i1, place_eq t]

theorem array_eq_7 : ((Gen.dats m 0 c).arrAt 7 cfg0.N : S4x8192x2048.Idx → EReal)
    = val_main_v153 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (Gen.dats m 0 c).arrAt_eq_of_covers 7 _ (by decide +kernel) fun t hf y => ?_
  blk_simp
  rw [after0_7]
  exact ((left_at m c t).wide y).trans (value_apply m c t y _ (idx_7 t) rfl rfl rfl)

theorem array_eq_8 : ((Gen.dats m 0 c).arrAt 8 cfg0.N : S4x8192x2048.Idx → EReal)
    = val_main_v154 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (Gen.dats m 0 c).arrAt_eq_of_covers 8 _ (by decide +kernel) fun t hf y => ?_
  blk_simp
  rw [after0_8]
  exact ((left_at m c t).short y).trans (value_apply m c t y _ (idx_8 t) rfl rfl rfl)

theorem last_step (t : Fin cfg0.N) (hf : (cfg0.win 9).flush t = true) : t.val % 16 = 15 :=
  (by decide +kernel : ∀ t : Fin cfg0.N, (cfg0.win 9).flush t = true → t.val % 16 = 15) t hf

theorem array_eq_9 : ((Gen.dats m 0 c).arrAt 9 cfg0.N : S4x16x2048.Idx → EReal)
    = val_main_v155 (F := Ideal) (m ((c : Thread nD τ).loc main_arg0)) (m ((c : Thread nD τ).loc main_arg1)) := by
  refine (Gen.dats m 0 c).arrAt_eq_of_covers 9 _ (by decide +kernel) fun t hf y => ?_
  have hl : t.val % 16 = 15 := last_step t hf
  blk_simp
  rw [after0_9]
  have h0 : win0_9.index t (0 : Fin 3) = t.val / 16 := congrFun (idx_9 t) 0
  have h1 : win0_9.index t (1 : Fin 3) = 0 := congrFun (idx_9 t) 1
  have h2 : win0_9.index t (2 : Fin 3) = 0 := congrFun (idx_9 t) 2
  have y0 : (y 0).val < 1 := (y 0).isLt
  have y1 : (y 1).val < 16 := (y 1).isLt
  refine ((left_at m c t).tail y).trans ((own_block m c t (496 + (y 1).val) (y 2).val (by omega) (y 2).isLt).trans ?_)
  rw [val_main_v155_apply]
  refine Eq.trans ?_ (padded_past _ _ _ (t.val / 16) (8176 + (y 1).val) 0 (y 2).val ?_ ?_ (by decide) ?_).symm
  · unfold past
    rw [if_pos (Nat.zero_le _)]
    have e : 512 * (t.val % 16) + (496 + (y 1).val) = 8176 + (y 1).val - 0 := by omega
    rw [e]
  · show win0_9.index t (0 : Fin 3) * 1 + 1 * (y 0).val = _
    omega
  · show 8191 + (win0_9.index t (1 : Fin 3) * 16 + 1 * (y 1).val) = _
    omega
  · show win0_9.index t (2 : Fin 3) * 2048 + 1 * (y 2).val = _
    omega

end Cert.Pool
end
-- ==== Proof.PoolClaim.lean ====
/-
  The claims about the pooling mixer: the three frames, and the equality of the three results.
-/
module

public import proofs.«01_k».proof.Defs
public import proofs.«01_k».proof.Proof.Gen.Pool.Frame
public import proofs.«01_k».proof.Proof.Gen.PoolRefIdeal.Run
public import proofs.«01_k».proof.Proof.PoolValue
public import Idealize.ShloMosaic.Lib.Claim

@[expose] public section

noncomputable section

open Idealize.ShloMosaic Idealize.SL.Sem Idealize.ShloMosaic.TcCoe

namespace Cert.Pool

theorem frame_kernel : Cert.quiescent_Pool := fun m g _ => Cert.Pool.Gen.frame m g

theorem frame_ideal : Cert.quiescent_PoolIdeal := fun m g _ => Cert.PoolIdeal.Gen.frame m g

theorem frame_reference : Cert.quiescent_PoolRefIdeal := fun m g _ =>
  (θ_run Cert.PoolRefIdeal.defs _ _).mono (fun r h => ⟨fun c => (h c).2.2.2, sem_eq_zero_of_no_sems (by decide) r.2⟩)
    (Cert.PoolRefIdeal.Value.run (F := Ideal) m g)

theorem preserves : Cert.preserves_Pool_PoolIdeal := trivial

theorem algebraic : Cert.algebraic_PoolIdeal_PoolRefIdeal := by
  intro m g m' g' hpre hagree
  refine ⟨fun c => Cert.PoolRefIdeal.Read.val_main_v153 (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)),
    fun c => Cert.PoolRefIdeal.Read.val_main_v154 (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)),
    fun c => Cert.PoolRefIdeal.Read.val_main_v155 (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)),
    (θ_run Cert.PoolIdeal.defs _ _).mono (fun r h c => ⟨(h c).1.trans ((Cert.PoolIdeal.Value.final7 m c).symm.trans (Cert.Pool.array_eq_7 m c)),
        (h c).2.1.trans ((Cert.PoolIdeal.Value.final8 m c).symm.trans (Cert.Pool.array_eq_8 m c)),
        (h c).2.2.1.trans ((Cert.PoolIdeal.Value.final9 m c).symm.trans (Cert.Pool.array_eq_9 m c)), (h c).2.2.2⟩)
      (Cert.PoolIdeal.Value.run m g),
    (θ_run Cert.PoolRefIdeal.defs _ _).mono (fun r h c => ⟨(h c).1.trans ?_, (h c).2.1.trans ?_, (h c).2.2.1.trans ?_, (h c).2.2.2⟩)
      (Cert.PoolRefIdeal.Value.run m' g')⟩
  all_goals obtain ⟨h0, h1, h2, h3, h4, h5⟩ := hagree c
  · have e : Cert.PoolRefIdeal.Read.val_main_v153 (F := Ideal) (m' ((c.tc : Thread Cert.PoolRefIdeal.nD Cert.PoolRefIdeal.τ).loc Cert.PoolRefIdeal.main_arg0)) (m' ((c.tc : Thread Cert.PoolRefIdeal.nD Cert.PoolRefIdeal.τ).loc Cert.PoolRefIdeal.main_arg1)) (m' ((c.tc : Thread Cert.PoolRefIdeal.nD Cert.PoolRefIdeal.τ).loc Cert.PoolRefIdeal.main_arg2)) (m' ((c.tc : Thread Cert.PoolRefIdeal.nD Cert.PoolRefIdeal.τ).loc Cert.PoolRefIdeal.main_arg3)) (m' ((c.tc : Thread Cert.PoolRefIdeal.nD Cert.PoolRefIdeal.τ).loc Cert.PoolRefIdeal.main_arg4)) (m' ((c.tc : Thread Cert.PoolRefIdeal.nD Cert.PoolRefIdeal.τ).loc Cert.PoolRefIdeal.main_arg5)) = Cert.PoolRefIdeal.Read.val_main_v153 (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) := by rw [h0, h1, h2, h3, h4, h5]
    exact (Cert.PoolRefIdeal.Read.val_main_v153_eq _).trans e
  · have e : Cert.PoolRefIdeal.Read.val_main_v154 (F := Ideal) (m' ((c.tc : Thread Cert.PoolRefIdeal.nD Cert.PoolRefIdeal.τ).loc Cert.PoolRefIdeal.main_arg0)) (m' ((c.tc : Thread Cert.PoolRefIdeal.nD Cert.PoolRefIdeal.τ).loc Cert.PoolRefIdeal.main_arg1)) (m' ((c.tc : Thread Cert.PoolRefIdeal.nD Cert.PoolRefIdeal.τ).loc Cert.PoolRefIdeal.main_arg2)) (m' ((c.tc : Thread Cert.PoolRefIdeal.nD Cert.PoolRefIdeal.τ).loc Cert.PoolRefIdeal.main_arg3)) (m' ((c.tc : Thread Cert.PoolRefIdeal.nD Cert.PoolRefIdeal.τ).loc Cert.PoolRefIdeal.main_arg4)) (m' ((c.tc : Thread Cert.PoolRefIdeal.nD Cert.PoolRefIdeal.τ).loc Cert.PoolRefIdeal.main_arg5)) = Cert.PoolRefIdeal.Read.val_main_v154 (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) := by rw [h0, h1, h2, h3, h4, h5]
    exact (Cert.PoolRefIdeal.Read.val_main_v154_eq _).trans e
  · have e : Cert.PoolRefIdeal.Read.val_main_v155 (F := Ideal) (m' ((c.tc : Thread Cert.PoolRefIdeal.nD Cert.PoolRefIdeal.τ).loc Cert.PoolRefIdeal.main_arg0)) (m' ((c.tc : Thread Cert.PoolRefIdeal.nD Cert.PoolRefIdeal.τ).loc Cert.PoolRefIdeal.main_arg1)) = Cert.PoolRefIdeal.Read.val_main_v155 (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) := by rw [h0, h1]
    exact (Cert.PoolRefIdeal.Read.val_main_v155_eq _).trans e

end Cert.Pool
end
-- ==== Proof.lean ====
/-
  The proof of `Cert.Claim`: the claims about each program are proved in their own modules and collected here.
-/
module

public import proofs.«01_k».proof.Defs
public import proofs.«01_k».proof.Proof.AttnClaim
public import proofs.«01_k».proof.Proof.CallsClaim
public import proofs.«01_k».proof.Proof.PoolClaim
public import proofs.«01_k».proof.Proof.Gen.Proj.Frame
public import proofs.«01_k».proof.Proof.Gen.ProjIdeal.Value
public import proofs.«01_k».proof.Proof.Gen.ProjRefIdeal.Read
public import proofs.«01_k».proof.Proof.Gen.KvPrompt.Frame
public import proofs.«01_k».proof.Proof.Gen.KvPromptIdeal.Value
public import proofs.«01_k».proof.Proof.Gen.KvPromptRefIdeal.Read
public import proofs.«01_k».proof.Proof.Gen.KvSample.Frame
public import proofs.«01_k».proof.Proof.Gen.KvSampleIdeal.Value
public import proofs.«01_k».proof.Proof.Gen.KvSampleRefIdeal.Read
public import proofs.«01_k».proof.Proof.Gen.ProjLn.Frame
public import proofs.«01_k».proof.Proof.Gen.ProjLnIdeal.Value
public import proofs.«01_k».proof.Proof.Gen.ProjLnRefIdeal.Read
public import proofs.«01_k».proof.Proof.Gen.Pool.Frame
public import proofs.«01_k».proof.Proof.Gen.PoolIdeal.Value
public import proofs.«01_k».proof.Proof.Gen.PoolRefIdeal.Read
public import proofs.«01_k».proof.Proof.Gen.Ple.Frame
public import proofs.«01_k».proof.Proof.Gen.PleIdeal.Value
public import proofs.«01_k».proof.Proof.Gen.PleRefIdeal.Read

@[expose] public section

noncomputable section

namespace Cert.Proof

theorem claim : Cert.Claim :=
  ⟨Cert.Kernel.Gen.facts, Cert.KernelIdeal.Gen.facts, Cert.ReferenceIdeal.Gen.facts,
    Cert.Proj.Gen.facts, Cert.ProjIdeal.Gen.facts, Cert.ProjRefIdeal.Gen.facts, Cert.KvPrompt.Gen.facts, Cert.KvPromptIdeal.Gen.facts, Cert.KvPromptRefIdeal.Gen.facts, Cert.KvSample.Gen.facts, Cert.KvSampleIdeal.Gen.facts, Cert.KvSampleRefIdeal.Gen.facts, Cert.ProjLn.Gen.facts, Cert.ProjLnIdeal.Gen.facts, Cert.ProjLnRefIdeal.Gen.facts, Cert.Ple.Gen.facts, Cert.PleIdeal.Gen.facts, Cert.PleRefIdeal.Gen.facts, Cert.Pool.Gen.facts, Cert.PoolIdeal.Gen.facts, Cert.PoolRefIdeal.Gen.facts,
    Cert.Attn.finite_facts,
    Cert.Attn.frame_kernel, Cert.Attn.frame_ideal, Cert.Attn.frame_ideal_finite, Cert.Attn.frame_reference,
    Cert.Attn.frame_reference_finite,
    Cert.Proj.frame_kernel, Cert.Proj.frame_ideal, Cert.Proj.frame_reference,
    Cert.KvPrompt.frame_kernel, Cert.KvPrompt.frame_ideal, Cert.KvPrompt.frame_reference,
    Cert.KvSample.frame_kernel, Cert.KvSample.frame_ideal, Cert.KvSample.frame_reference,
    Cert.ProjLn.frame_kernel, Cert.ProjLn.frame_ideal, Cert.ProjLn.frame_reference,
    Cert.Ple.frame_kernel, Cert.Ple.frame_ideal, Cert.Ple.frame_reference,
    Cert.Pool.frame_kernel, Cert.Pool.frame_ideal, Cert.Pool.frame_reference,
    Cert.Attn.preserves, Cert.Attn.algebraic,
    Cert.Proj.preserves, Cert.Proj.algebraic,
    Cert.KvPrompt.preserves, Cert.KvPrompt.algebraic,
    Cert.KvSample.preserves, Cert.KvSample.algebraic,
    Cert.ProjLn.preserves, Cert.ProjLn.algebraic,
    Cert.Ple.preserves, Cert.Ple.algebraic,
    Cert.Pool.preserves, Cert.Pool.algebraic⟩

end Cert.Proof

end
